-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQRefIdeal (m : (ℓ : Loc Cert.PeerQRefIdeal.nD Cert.PeerQRefIdeal.τ Cert.PeerQRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1)
      ∧ r.2.mem ((c.tc : Thread Cert.PeerQ.nD Cert.PeerQ.τ).loc Cert.PeerQ.main_arg2) = m ((c.tc : Thread Cert.PeerQ.nD Cert.PeerQ.τ).loc Cert.PeerQ.main_arg2)
      ∧ r.2.mem ((c.tc : Thread Cert.PeerQ.nD Cert.PeerQ.τ).loc Cert.PeerQ.main_arg3) = m ((c.tc : Thread Cert.PeerQ.nD Cert.PeerQ.τ).loc Cert.PeerQ.main_arg3)
      ∧ r.2.mem ((c.tc : Thread Cert.PeerQ.nD Cert.PeerQ.τ).loc Cert.PeerQ.main_arg4) = m ((c.tc : Thread Cert.PeerQ.nD Cert.PeerQ.τ).loc Cert.PeerQ.main_arg4)
      ∧ r.2.mem ((c.tc : Thread Cert.PeerQ.nD Cert.PeerQ.τ).loc Cert.PeerQ.main_arg5) = m ((c.tc : Thread Cert.PeerQ.nD Cert.PeerQ.τ).loc Cert.PeerQ.main_arg5))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
      ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2)
      ∧ r.2.mem ((c.tc : Thread Cert.PeerQIdeal.nD Cert.PeerQIdeal.τ).loc Cert.PeerQIdeal.main_arg3) = m ((c.tc : Thread Cert.PeerQIdeal.nD Cert.PeerQIdeal.τ).loc Cert.PeerQIdeal.main_arg3)
      ∧ r.2.mem ((c.tc : Thread Cert.PeerQIdeal.nD Cert.PeerQIdeal.τ).loc Cert.PeerQIdeal.main_arg4) = m ((c.tc : Thread Cert.PeerQIdeal.nD Cert.PeerQIdeal.τ).loc Cert.PeerQIdeal.main_arg4)
      ∧ r.2.mem ((c.tc : Thread Cert.PeerQIdeal.nD Cert.PeerQIdeal.τ).loc Cert.PeerQIdeal.main_arg5) = m ((c.tc : Thread Cert.PeerQIdeal.nD Cert.PeerQIdeal.τ).loc Cert.PeerQIdeal.main_arg5))
      ∧ r.2.sem = fun _ => 0)

def quiescent_PeerQRefIdeal [hPeerQRefIdeal : Cert.PeerQRefIdeal.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1)
      ∧ r.2.mem ((c.tc : Thread Cert.PeerQRefIdeal.nD Cert.PeerQRefIdeal.τ).loc Cert.PeerQRefIdeal.main_arg2) = m ((c.tc : Thread Cert.PeerQRefIdeal.nD Cert.PeerQRefIdeal.τ).loc Cert.PeerQRefIdeal.main_arg2)
      ∧ r.2.mem ((c.tc : Thread Cert.PeerQRefIdeal.nD Cert.PeerQRefIdeal.τ).loc Cert.PeerQRefIdeal.main_arg3) = m ((c.tc : Thread Cert.PeerQRefIdeal.nD Cert.PeerQRefIdeal.τ).loc Cert.PeerQRefIdeal.main_arg3)
      ∧ r.2.mem ((c.tc : Thread Cert.PeerQRefIdeal.nD Cert.PeerQRefIdeal.τ).loc Cert.PeerQRefIdeal.main_arg4) = m ((c.tc : Thread Cert.PeerQRefIdeal.nD Cert.PeerQRefIdeal.τ).loc Cert.PeerQRefIdeal.main_arg4)
      ∧ r.2.mem ((c.tc : Thread Cert.PeerQRefIdeal.nD Cert.PeerQRefIdeal.τ).loc Cert.PeerQRefIdeal.main_arg5) = m ((c.tc : Thread Cert.PeerQRefIdeal.nD Cert.PeerQRefIdeal.τ).loc Cert.PeerQRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4)
      ∧ r.2.mem ((c.tc : Thread Cert.OutOdd.nD Cert.OutOdd.τ).loc Cert.OutOdd.main_arg5) = m ((c.tc : Thread Cert.OutOdd.nD Cert.OutOdd.τ).loc Cert.OutOdd.main_arg5))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
      ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3)
      ∧ r.2.mem ((c.tc : Thread Cert.OutOddRefIdeal.nD Cert.OutOddRefIdeal.τ).loc Cert.OutOddRefIdeal.main_arg4) = m ((c.tc : Thread Cert.OutOddRefIdeal.nD Cert.OutOddRefIdeal.τ).loc Cert.OutOddRefIdeal.main_arg4)
      ∧ r.2.mem ((c.tc : Thread Cert.OutOddRefIdeal.nD Cert.OutOddRefIdeal.τ).loc Cert.OutOddRefIdeal.main_arg5) = m ((c.tc : Thread Cert.OutOddRefIdeal.nD Cert.OutOddRefIdeal.τ).loc Cert.OutOddRefIdeal.main_arg5))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4)
      ∧ r.2.mem ((c.tc : Thread Cert.OutEven.nD Cert.OutEven.τ).loc Cert.OutEven.main_arg5) = m ((c.tc : Thread Cert.OutEven.nD Cert.OutEven.τ).loc Cert.OutEven.main_arg5))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
      ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4)
      ∧ r.2.mem ((c.tc : Thread Cert.OutEvenRefIdeal.nD Cert.OutEvenRefIdeal.τ).loc Cert.OutEvenRefIdeal.main_arg5) = m ((c.tc : Thread Cert.OutEvenRefIdeal.nD Cert.OutEvenRefIdeal.τ).loc Cert.OutEvenRefIdeal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v49)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v49) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v136) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def preserves_PeerQ_PeerQIdeal : Prop :=
  True

def algebraic_PeerQIdeal_PeerQRefIdeal [hPeerQIdeal : Cert.PeerQIdeal.Facts] [hPeerQRefIdeal : Cert.PeerQRefIdeal.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQRefIdeal.nD Cert.PeerQRefIdeal.τ Cert.PeerQRefIdeal.sig) → Buf (Elt Ideal) ℓ) (g' : Dev Cert.PeerQRefIdeal.nD → PrngReg), Pre_PeerQIdeal m →
    (∀ c : Dev Cert.PeerQIdeal.nD,
      m' ((c.tc : Thread Cert.PeerQRefIdeal.nD Cert.PeerQRefIdeal.τ).loc Cert.PeerQRefIdeal.main_arg0) = m ((c.tc : Thread Cert.PeerQIdeal.nD Cert.PeerQIdeal.τ).loc Cert.PeerQIdeal.main_arg0)
      ∧ m' ((c.tc : Thread Cert.PeerQRefIdeal.nD Cert.PeerQRefIdeal.τ).loc Cert.PeerQRefIdeal.main_arg1) = m ((c.tc : Thread Cert.PeerQIdeal.nD Cert.PeerQIdeal.τ).loc Cert.PeerQIdeal.main_arg1)
      ∧ m' ((c.tc : Thread Cert.PeerQRefIdeal.nD Cert.PeerQRefIdeal.τ).loc Cert.PeerQRefIdeal.main_arg2) = m ((c.tc : Thread Cert.PeerQIdeal.nD Cert.PeerQIdeal.τ).loc Cert.PeerQIdeal.main_arg2)
      ∧ m' ((c.tc : Thread Cert.PeerQRefIdeal.nD Cert.PeerQRefIdeal.τ).loc Cert.PeerQRefIdeal.main_arg3) = m ((c.tc : Thread Cert.PeerQIdeal.nD Cert.PeerQIdeal.τ).loc Cert.PeerQIdeal.main_arg3)
      ∧ m' ((c.tc : Thread Cert.PeerQRefIdeal.nD Cert.PeerQRefIdeal.τ).loc Cert.PeerQRefIdeal.main_arg4) = m ((c.tc : Thread Cert.PeerQIdeal.nD Cert.PeerQIdeal.τ).loc Cert.PeerQIdeal.main_arg4)
      ∧ m' ((c.tc : Thread Cert.PeerQRefIdeal.nD Cert.PeerQRefIdeal.τ).loc Cert.PeerQRefIdeal.main_arg5) = m ((c.tc : Thread Cert.PeerQIdeal.nD Cert.PeerQIdeal.τ).loc Cert.PeerQIdeal.main_arg5)) →
    ∃ (v0 : (c : Dev Cert.PeerQIdeal.nD) → Buf (Elt Ideal) ((c.tc : Thread Cert.PeerQIdeal.nD Cert.PeerQIdeal.τ).loc Cert.PeerQIdeal.main_v14_0)) (v1 : (c : Dev Cert.PeerQIdeal.nD) → Buf (Elt Ideal) ((c.tc : Thread Cert.PeerQIdeal.nD Cert.PeerQIdeal.τ).loc Cert.PeerQIdeal.main_v14_1)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v14_0) = v0 c
          ∧ r.2.mem ((c.tc : Thread Cert.PeerQIdeal.nD Cert.PeerQIdeal.τ).loc Cert.PeerQIdeal.main_v14_1) = v1 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1)
          ∧ r.2.mem ((c.tc : Thread Cert.PeerQIdeal.nD Cert.PeerQIdeal.τ).loc Cert.PeerQIdeal.main_arg2) = m ((c.tc : Thread Cert.PeerQIdeal.nD Cert.PeerQIdeal.τ).loc Cert.PeerQIdeal.main_arg2)
          ∧ r.2.mem ((c.tc : Thread Cert.PeerQIdeal.nD Cert.PeerQIdeal.τ).loc Cert.PeerQIdeal.main_arg3) = m ((c.tc : Thread Cert.PeerQIdeal.nD Cert.PeerQIdeal.τ).loc Cert.PeerQIdeal.main_arg3)
          ∧ r.2.mem ((c.tc : Thread Cert.PeerQIdeal.nD Cert.PeerQIdeal.τ).loc Cert.PeerQIdeal.main_arg4) = m ((c.tc : Thread Cert.PeerQIdeal.nD Cert.PeerQIdeal.τ).loc Cert.PeerQIdeal.main_arg4)
          ∧ r.2.mem ((c.tc : Thread Cert.PeerQIdeal.nD Cert.PeerQIdeal.τ).loc Cert.PeerQIdeal.main_arg5) = m ((c.tc : Thread Cert.PeerQIdeal.nD Cert.PeerQIdeal.τ).loc Cert.PeerQIdeal.main_arg5))
      ∧ θ_run (Cert.PeerQRefIdeal.defs (F := Ideal)) (onTc (τ := Cert.PeerQRefIdeal.τ) (Cert.PeerQRefIdeal.main (F := Ideal))) ⟨m', fun _ => 0, g'⟩ (fun r => ∀ c : Dev Cert.PeerQRefIdeal.nD,
          r.2.mem ((c.tc : Thread Cert.PeerQRefIdeal.nD Cert.PeerQRefIdeal.τ).loc Cert.PeerQRefIdeal.main_v48) = v0 c
          ∧ r.2.mem ((c.tc : Thread Cert.PeerQRefIdeal.nD Cert.PeerQRefIdeal.τ).loc Cert.PeerQRefIdeal.main_v49) = v1 c
          ∧ r.2.mem ((c.tc : Thread Cert.PeerQRefIdeal.nD Cert.PeerQRefIdeal.τ).loc Cert.PeerQRefIdeal.main_arg0) = m' ((c.tc : Thread Cert.PeerQRefIdeal.nD Cert.PeerQRefIdeal.τ).loc Cert.PeerQRefIdeal.main_arg0)
          ∧ r.2.mem ((c.tc : Thread Cert.PeerQRefIdeal.nD Cert.PeerQRefIdeal.τ).loc Cert.PeerQRefIdeal.main_arg1) = m' ((c.tc : Thread Cert.PeerQRefIdeal.nD Cert.PeerQRefIdeal.τ).loc Cert.PeerQRefIdeal.main_arg1)
          ∧ r.2.mem ((c.tc : Thread Cert.PeerQRefIdeal.nD Cert.PeerQRefIdeal.τ).loc Cert.PeerQRefIdeal.main_arg2) = m' ((c.tc : Thread Cert.PeerQRefIdeal.nD Cert.PeerQRefIdeal.τ).loc Cert.PeerQRefIdeal.main_arg2)
          ∧ r.2.mem ((c.tc : Thread Cert.PeerQRefIdeal.nD Cert.PeerQRefIdeal.τ).loc Cert.PeerQRefIdeal.main_arg3) = m' ((c.tc : Thread Cert.PeerQRefIdeal.nD Cert.PeerQRefIdeal.τ).loc Cert.PeerQRefIdeal.main_arg3)
          ∧ r.2.mem ((c.tc : Thread Cert.PeerQRefIdeal.nD Cert.PeerQRefIdeal.τ).loc Cert.PeerQRefIdeal.main_arg4) = m' ((c.tc : Thread Cert.PeerQRefIdeal.nD Cert.PeerQRefIdeal.τ).loc Cert.PeerQRefIdeal.main_arg4)
          ∧ r.2.mem ((c.tc : Thread Cert.PeerQRefIdeal.nD Cert.PeerQRefIdeal.τ).loc Cert.PeerQRefIdeal.main_arg5) = m' ((c.tc : Thread Cert.PeerQRefIdeal.nD Cert.PeerQRefIdeal.τ).loc Cert.PeerQRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v16)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v50) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)
      ∧ m' ((c.tc : Thread Cert.OutOddRefIdeal.nD Cert.OutOddRefIdeal.τ).loc Cert.OutOddRefIdeal.main_arg4) = m ((c.tc : Thread Cert.OutOddIdeal.nD Cert.OutOddIdeal.τ).loc Cert.OutOddIdeal.main_arg4)
      ∧ m' ((c.tc : Thread Cert.OutOddRefIdeal.nD Cert.OutOddRefIdeal.τ).loc Cert.OutOddRefIdeal.main_arg5) = m ((c.tc : Thread Cert.OutOddIdeal.nD Cert.OutOddIdeal.τ).loc Cert.OutOddIdeal.main_arg5)) →
    ∃ (v0 : (c : Dev Cert.OutOddIdeal.nD) → Buf (Elt Ideal) ((c.tc : Thread Cert.OutOddIdeal.nD Cert.OutOddIdeal.τ).loc Cert.OutOddIdeal.main_v13)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v13) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
          ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v16) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3)
          ∧ r.2.mem ((c.tc : Thread Cert.OutOddRefIdeal.nD Cert.OutOddRefIdeal.τ).loc Cert.OutOddRefIdeal.main_arg4) = m' ((c.tc : Thread Cert.OutOddRefIdeal.nD Cert.OutOddRefIdeal.τ).loc Cert.OutOddRefIdeal.main_arg4)
          ∧ r.2.mem ((c.tc : Thread Cert.OutOddRefIdeal.nD Cert.OutOddRefIdeal.τ).loc Cert.OutOddRefIdeal.main_arg5) = m' ((c.tc : Thread Cert.OutOddRefIdeal.nD Cert.OutOddRefIdeal.τ).loc Cert.OutOddRefIdeal.main_arg5))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)
      ∧ m' ((c.tc : Thread Cert.OutEvenRefIdeal.nD Cert.OutEvenRefIdeal.τ).loc Cert.OutEvenRefIdeal.main_arg4) = m ((c.tc : Thread Cert.OutEvenIdeal.nD Cert.OutEvenIdeal.τ).loc Cert.OutEvenIdeal.main_arg4)
      ∧ m' ((c.tc : Thread Cert.OutEvenRefIdeal.nD Cert.OutEvenRefIdeal.τ).loc Cert.OutEvenRefIdeal.main_arg5) = m ((c.tc : Thread Cert.OutEvenIdeal.nD Cert.OutEvenIdeal.τ).loc Cert.OutEvenIdeal.main_arg5)) →
    ∃ (v0 : (c : Dev Cert.OutEvenIdeal.nD) → Buf (Elt Ideal) ((c.tc : Thread Cert.OutEvenIdeal.nD Cert.OutEvenIdeal.τ).loc Cert.OutEvenIdeal.main_v13)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v13) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
          ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v15) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3)
          ∧ r.2.mem ((c.tc : Thread Cert.OutEvenRefIdeal.nD Cert.OutEvenRefIdeal.τ).loc Cert.OutEvenRefIdeal.main_arg4) = m' ((c.tc : Thread Cert.OutEvenRefIdeal.nD Cert.OutEvenRefIdeal.τ).loc Cert.OutEvenRefIdeal.main_arg4)
          ∧ r.2.mem ((c.tc : Thread Cert.OutEvenRefIdeal.nD Cert.OutEvenRefIdeal.τ).loc Cert.OutEvenRefIdeal.main_arg5) = m' ((c.tc : Thread Cert.OutEvenRefIdeal.nD Cert.OutEvenRefIdeal.τ).loc Cert.OutEvenRefIdeal.main_arg5))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvRefIdeal : Cert.QkvRefIdeal.Facts) (hPeerQ : Cert.PeerQ.Facts) (hPeerQIdeal : Cert.PeerQIdeal.Facts) (hPeerQRefIdeal : Cert.PeerQRefIdeal.Facts) (hInProj : Cert.InProj.Facts) (hInProjIdeal : Cert.InProjIdeal.Facts) (hInProjRefIdeal : Cert.InProjRefIdeal.Facts) (hOutOdd : Cert.OutOdd.Facts) (hOutOddIdeal : Cert.OutOddIdeal.Facts) (hOutOddRefIdeal : Cert.OutOddRefIdeal.Facts) (hOutEven : Cert.OutEven.Facts) (hOutEvenIdeal : Cert.OutEvenIdeal.Facts) (hOutEvenRefIdeal : Cert.OutEvenRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Qkv (hQkv := hQkv)
    ∧ quiescent_QkvIdeal (hQkvIdeal := hQkvIdeal)
    ∧ quiescent_QkvRefIdeal (hQkvRefIdeal := hQkvRefIdeal)
    ∧ quiescent_PeerQ (hPeerQ := hPeerQ)
    ∧ quiescent_PeerQIdeal (hPeerQIdeal := hPeerQIdeal)
    ∧ quiescent_PeerQRefIdeal (hPeerQRefIdeal := hPeerQRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Qkv_QkvIdeal
    ∧ algebraic_QkvIdeal_QkvRefIdeal (hQkvIdeal := hQkvIdeal) (hQkvRefIdeal := hQkvRefIdeal)
    ∧ preserves_PeerQ_PeerQIdeal
    ∧ algebraic_PeerQIdeal_PeerQRefIdeal (hPeerQIdeal := hPeerQIdeal) (hPeerQRefIdeal := hPeerQRefIdeal)
    ∧ preserves_InProj_InProjIdeal
    ∧ algebraic_InProjIdeal_InProjRefIdeal (hInProjIdeal := hInProjIdeal) (hInProjRefIdeal := hInProjRefIdeal)
    ∧ preserves_OutOdd_OutOddIdeal
    ∧ algebraic_OutOddIdeal_OutOddRefIdeal (hOutOddIdeal := hOutOddIdeal) (hOutOddRefIdeal := hOutOddRefIdeal)
    ∧ preserves_OutEven_OutEvenIdeal
    ∧ algebraic_OutEvenIdeal_OutEvenRefIdeal (hOutEvenIdeal := hOutEvenIdeal) (hOutEvenRefIdeal := hOutEvenRefIdeal)
-- ==== Pre_finite_qk.lean ====
abbrev S8x4352x3072 : Shape := ⟨3, ![8, 4352, 3072]⟩
abbrev S64 : Shape := ⟨1, ![64]⟩
abbrev S128 : Shape := ⟨1, ![128]⟩
abbrev S8x4352x2048 : Shape := ⟨3, ![8, 4352, 2048]⟩
abbrev S_ : Shape := ⟨0, ![]⟩

class Facts : Prop where
  slices_S8x4352x3072_S8x4352x2048_0_0_0 : S8x4352x3072.Slices ![0, 0, 0] S8x4352x2048
  bitsLt_bf16_f32 : FTy.bits .bf16 < FTy.bits .f32
  bcast_S_S8x4352x2048 : S_.BroadcastsInDim S8x4352x2048 (![] : Fin 0 → Fin S8x4352x2048.rank)

variable [Facts]

def fn {F : FTy → Type} [FloatOps F] (main_arg0 : FVec F S8x4352x3072 .bf16) (main_arg1 : FVec F S64 .f32) (main_arg2 : FVec F S64 .f32) (main_arg3 : FVec F S64 .f32) (main_arg4 : FVec F S64 .f32) (main_arg5 : FVec F S128 .f32) : IVec S8x4352x2048 1 :=
  let main_v0 : FVec F S8x4352x2048 .bf16 := (extractStridedSlice S8x4352x2048 ![0, 0, 0] · slices_S8x4352x3072_S8x4352x2048_0_0_0) main_arg0
  let main_v1 : FVec F S8x4352x2048 .f32 := (extf .f32 · bitsLt_bf16_f32) main_v0
  let main_cst : FVec F S_ .f32 := constant S_ .f32 0xFF800000#32
  let main_v2 : FVec F S8x4352x2048 .f32 := broadcastInDim S8x4352x2048 ![] bcast_S_S8x4352x2048 main_cst
  let main_v3 : IVec S8x4352x2048 1 := cmpf .ogt main_v1 main_v2
  let main_cst_0 : FVec F S_ .f32 := constant S_ .f32 0x7F800000#32
  let main_v4 : FVec F S8x4352x2048 .f32 := broadcastInDim S8x4352x2048 ![] bcast_S_S8x4352x2048 main_cst_0
  let main_v5 : IVec S8x4352x2048 1 := cmpf .olt main_v1 main_v4
  let main_v6 : IVec S8x4352x2048 1 := andi main_v3 main_v5
  main_v6
-- ==== Kernel.lean ====
abbrev S8x4352x3072 : Shape := ⟨3, ![8, 4352, 3072]⟩
abbrev S64 : Shape := ⟨1, ![64]⟩
abbrev S128 : Shape := ⟨1, ![128]⟩
abbrev S_ : Shape := ⟨0, ![]⟩
abbrev S1 : Shape := ⟨1, ![1]⟩
abbrev S1x128 : Shape := ⟨2, ![1, 128]⟩
abbrev S8x4352x1024 : Shape := ⟨3, ![8, 4352, 1024]⟩
abbrev S1x256x128 : Shape := ⟨3, ![1, 256, 128]⟩
abbrev S1x4352x128 : Shape := ⟨3, ![1, 4352, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S4352x128 : Shape := ⟨2, ![4352, 128]⟩
abbrev S256x4352 : Shape := ⟨2, ![256, 4352]⟩

abbrev nBuf : Space → Nat
  | .hbm => 20
  | .vmem => 9
  | .smem => 1
  | _ => 0

abbrev bufTy : (tb : Table) → Fin (tcTables nBuf tb) → BufTy
  | .hbm, ⟨0, _⟩ => ⟨S8x4352x3072, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S1x128, .f32⟩
  | .hbm, ⟨19, _⟩ => ⟨S8x4352x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x128, .f32⟩
  | .local _ .vmem, ⟨7, _⟩ => ⟨S1x256x128, .bf16⟩
  | .local _ .vmem, ⟨8, _⟩ => ⟨S1x256x128, .bf16⟩
  | .local _ .smem, ⟨0, _⟩ => ⟨S1, .f32⟩
  | _, _ => ⟨S8x4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 17], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_0 : BitVec 32 := 0#32
  let v6 : BitVec 1 := Scalar.cmpi .ne v5 c0_i32_0
  v6

def k0_cond2 (i : grid0.Coords) : BitVec 1 :=
  let arg2 : BitVec 32 := BitVec.ofNat 32 (i 2).val
  let c0_i32 : BitVec 32 := 0#32
  let v4 : BitVec 1 := Scalar.cmpi .eq arg2 c0_i32
  let v_true : BitVec 1 := 1#1
  let v7 : BitVec 1 := Scalar.xori v4 v_true
  let v8 : BitVec 32 := Scalar.extui v7
  let c0_i32_1 : BitVec 32 := 0#32
  let v9 : BitVec 1 := Scalar.cmpi .ne v8 c0_i32_1
  v9

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x4352x3072 : Shape := ⟨3, ![8, 4352, 3072]⟩
abbrev S64 : Shape := ⟨1, ![64]⟩
abbrev S128 : Shape := ⟨1, ![128]⟩
abbrev S_ : Shape := ⟨0, ![]⟩
abbrev S8x4352x1024 : Shape := ⟨3, ![8, 4352, 1024]⟩
abbrev S8x4352x8x2x64 : Shape := ⟨5, ![8, 4352, 8, 2, 64]⟩
abbrev S8x8x2x4352x64 : Shape := ⟨5, ![8, 8, 2, 4352, 64]⟩
abbrev S8x4352x8x128 : Shape := ⟨4, ![8, 4352, 8, 128]⟩
abbrev S8x8x4352x128 : Shape := ⟨4, ![8, 8, 4352, 128]⟩
abbrev S8x8x2x256x64 : Shape := ⟨5, ![8, 8, 2, 256, 64]⟩
abbrev S8x8x256x128 : Shape := ⟨4, ![8, 8, 256, 128]⟩
abbrev S8x8x2x256x256 : Shape := ⟨5, ![8, 8, 2, 256, 256]⟩
abbrev S8x8x2x256 : Shape := ⟨4, ![8, 8, 2, 256]⟩
abbrev S8x8x2x256x1 : Shape := ⟨5, ![8, 8, 2, 256, 1]⟩
abbrev S8x8x1x256x256 : Shape := ⟨5, ![8, 8, 1, 256, 256]⟩
abbrev S8x8x256x256 : Shape := ⟨4, ![8, 8, 256, 256]⟩
abbrev S8x256x8x128 : Shape := ⟨4, ![8, 256, 8, 128]⟩
abbrev S8x256x8 : Shape := ⟨3, ![8, 256, 8]⟩
abbrev S8x256x8x1 : Shape := ⟨4, ![8, 256, 8, 1]⟩
abbrev S1x1x1x128 : Shape := ⟨4, ![1, 1, 1, 128]⟩
abbrev S8x256x1024 : Shape := ⟨3, ![8, 256, 1024]⟩
abbrev S8x8x2x4096x64 : Shape := ⟨5, ![8, 8, 2, 4096, 64]⟩
abbrev S8x8x2x4096x4352 : Shape := ⟨5, ![8, 8, 2, 4096, 4352]⟩
abbrev S8x8x2x4096 : Shape := ⟨4, ![8, 8, 2, 4096]⟩
abbrev S8x8x2x4096x1 : Shape := ⟨5, ![8, 8, 2, 4096, 1]⟩
abbrev S8x8x1x4096x4352 : Shape := ⟨5, ![8, 8, 1, 4096, 4352]⟩
abbrev S8x8x4096x4352 : Shape := ⟨4, ![8, 8, 4096, 4352]⟩
abbrev S8x8x4096x128 : Shape := ⟨4, ![8, 8, 4096, 128]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S8x4096x1024 : Shape := ⟨3, ![8, 4096, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8x4352x3072, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x4352x3072, .f32⟩
  | .hbm, ⟨18, _⟩ => ⟨S8x4352x1024, .f32⟩
  | .hbm, ⟨19, _⟩ => ⟨S8x4352x8x2x64, .f32⟩
  | .hbm, ⟨20, _⟩ => ⟨S8x8x2x4352x64, .f32⟩
  | .hbm, ⟨21, _⟩ => ⟨S8x4352x1024, .f32⟩
  | .hbm, ⟨22, _⟩ => ⟨S8x4352x8x2x64, .f32⟩
  | .hbm, ⟨23, _⟩ => ⟨S8x8x2x4352x64, .f32⟩
  | .hbm, ⟨24, _⟩ => ⟨S8x4352x1024, .f32⟩
  | .hbm, ⟨25, _⟩ => ⟨S8x4352x8x128, .f32⟩
  | .hbm, ⟨26, _⟩ => ⟨S8x8x4352x128, .f32⟩
  | .hbm, ⟨27, _⟩ => ⟨S8x8x2x256x64, .f32⟩
  | .hbm, ⟨28, _⟩ => ⟨S8x8x2x256x64, .f32⟩
  | .hbm, ⟨29, _⟩ => ⟨S8x8x256x128, .f32⟩
  | .hbm, ⟨30, _⟩ => ⟨S8x8x2x256x256, .f32⟩
  | .hbm, ⟨31, _⟩ => ⟨S_, .f32⟩
  | .hbm, ⟨32, _⟩ => ⟨S8x8x2x256, .f32⟩
  | .hbm, ⟨33, _⟩ => ⟨S_, .f32⟩
  | .hbm, ⟨34, _⟩ => ⟨S8x8x2x256, .f32⟩
  | .hbm, ⟨35, _⟩ => ⟨S8x8x2x256, .f32⟩
  | .hbm, ⟨36, _⟩ => ⟨S8x8x2x256x1, .f32⟩
  | .hbm, ⟨37, _⟩ => ⟨S8x8x2x256x256, .f32⟩
  | .hbm, ⟨38, _⟩ => ⟨S8x8x2x256x256, .f32⟩
  | .hbm, ⟨39, _⟩ => ⟨S8x8x2x256x256, .f32⟩
  | .hbm, ⟨40, _⟩ => ⟨S_, .f32⟩
  | .hbm, ⟨41, _⟩ => ⟨S8x8x2x256, .f32⟩
  | .hbm, ⟨42, _⟩ => ⟨S8x8x2x256x1, .f32⟩
  | .hbm, ⟨43, _⟩ => ⟨S8x8x2x256x256, .f32⟩
  | .hbm, ⟨44, _⟩ => ⟨S8x8x2x256x256, .f32⟩
  | .hbm, ⟨45, _⟩ => ⟨S8x8x1x256x256, .f32⟩
  | .hbm, ⟨46, _⟩ => ⟨S8x8x256x256, .f32⟩
  | .hbm, ⟨47, _⟩ => ⟨S8x8x1x256x256, .f32⟩
  | .hbm, ⟨48, _⟩ => ⟨S8x8x256x256, .f32⟩
  | .hbm, ⟨49, _⟩ => ⟨S8x8x256x256, .f32⟩
  | .hbm, ⟨50, _⟩ => ⟨S8x8x256x256, .f32⟩
  | .hbm, ⟨51, _⟩ => ⟨S8x8x256x256, .f32⟩
  | .hbm, ⟨52, _⟩ => ⟨S8x8x256x128, .f32⟩
  | .hbm, ⟨53, _⟩ => ⟨S8x256x8x128, .f32⟩
  | .hbm, ⟨54, _⟩ => ⟨S8x256x8x128, .f32⟩
  | .hbm, ⟨55, _⟩ => ⟨S_, .f32⟩
  | .hbm, ⟨56, _⟩ => ⟨S8x256x8, .f32⟩
  | .hbm, ⟨57, _⟩ => ⟨S8x256x8x1, .f32⟩
  | .hbm, ⟨58, _⟩ => ⟨S_, .f32⟩
  | .hbm, ⟨59, _⟩ => ⟨S8x256x8x1, .f32⟩
  | .hbm, ⟨60, _⟩ => ⟨S8x256x8x1, .f32⟩
  | .hbm, ⟨61, _⟩ => ⟨S_, .f32⟩
  | .hbm, ⟨62, _⟩ => ⟨S8x256x8x1, .f32⟩
  | .hbm, ⟨63, _⟩ => ⟨S8x256x8x1, .f32⟩
  | .hbm, ⟨64, _⟩ => ⟨S8x256x8x1, .f32⟩
  | .hbm, ⟨65, _⟩ => ⟨S8x256x8x128, .f32⟩
  | .hbm, ⟨66, _⟩ => ⟨S8x256x8x128, .f32⟩
  | .hbm, ⟨67, _⟩ => ⟨S1x1x1x128, .f32⟩
  | .hbm, ⟨68, _⟩ => ⟨S8x256x8x128, .f32⟩
  | .hbm, ⟨69, _⟩ => ⟨S8x256x8x128, .f32⟩
  | .hbm, ⟨70, _⟩ => ⟨S_, .f32⟩
  | .hbm, ⟨71, _⟩ => ⟨S8x256x8x128, .f32⟩
  | .hbm, ⟨72, _⟩ => ⟨S8x256x8x128, .f32⟩
  | .hbm, ⟨73, _⟩ => ⟨S8x256x1024, .f32⟩
  | .hbm, ⟨74, _⟩ => ⟨S8x8x2x4096x64, .f32⟩
  | .hbm, ⟨75, _⟩ => ⟨S8x8x2x4096x4352, .f32⟩
  | .hbm, ⟨76, _⟩ => ⟨S_, .f32⟩
  | .hbm, ⟨77, _⟩ => ⟨S8x8x2x4096, .f32⟩
  | .hbm, ⟨78, _⟩ => ⟨S_, .f32⟩
  | .hbm, ⟨79, _⟩ => ⟨S8x8x2x4096, .f32⟩
  | .hbm, ⟨80, _⟩ => ⟨S8x8x2x4096, .f32⟩
  | .hbm, ⟨81, _⟩ => ⟨S8x8x2x4096x1, .f32⟩
  | .hbm, ⟨82, _⟩ => ⟨S8x8x2x4096x4352, .f32⟩
  | .hbm, ⟨83, _⟩ => ⟨S8x8x2x4096x4352, .f32⟩
  | .hbm, ⟨84, _⟩ => ⟨S8x8x2x4096x4352, .f32⟩
  | .hbm, ⟨85, _⟩ => ⟨S_, .f32⟩
  | .hbm, ⟨86, _⟩ => ⟨S8x8x2x4096, .f32⟩
  | .hbm, ⟨87, _⟩ => ⟨S8x8x2x4096x1, .f32⟩
  | .hbm, ⟨88, _⟩ => ⟨S8x8x2x4096x4352, .f32⟩
  | .hbm, ⟨89, _⟩ => ⟨S8x8x2x4096x4352, .f32⟩
  | .hbm, ⟨90, _⟩ => ⟨S8x8x1x4096x4352, .f32⟩
  | .hbm, ⟨91, _⟩ => ⟨S8x8x4096x4352, .f32⟩
  | .hbm, ⟨92, _⟩ => ⟨S8x8x1x4096x4352, .f32⟩
  | .hbm, ⟨93, _⟩ => ⟨S8x8x4096x4352, .f32⟩
  | .hbm, ⟨94, _⟩ => ⟨S8x8x4096x4352, .f32⟩
  | .hbm, ⟨95, _⟩ => ⟨S8x8x4096x4352, .f32⟩
  | .hbm, ⟨96, _⟩ => ⟨S8x8x4096x4352, .f32⟩
  | .hbm, ⟨97, _⟩ => ⟨S8x8x4096x128, .f32⟩
  | .hbm, ⟨98, _⟩ => ⟨S8x4096x8x128, .f32⟩
  | .hbm, ⟨99, _⟩ => ⟨S8x4096x8x128, .f32⟩
  | .hbm, ⟨100, _⟩ => ⟨S_, .f32⟩
  | .hbm, ⟨101, _⟩ => ⟨S8x4096x8, .f32⟩
  | .hbm, ⟨102, _⟩ => ⟨S8x4096x8x1, .f32⟩
  | .hbm, ⟨103, _⟩ => ⟨S_, .f32⟩
  | .hbm, ⟨104, _⟩ => ⟨S8x4096x8x1, .f32⟩
  | .hbm, ⟨105, _⟩ => ⟨S8x4096x8x1, .f32⟩
  | .hbm, ⟨106, _⟩ => ⟨S_, .f32⟩
  | .hbm, ⟨107, _⟩ => ⟨S8x4096x8x1, .f32⟩
  | .hbm, ⟨108, _⟩ => ⟨S8x4096x8x1, .f32⟩
  | .hbm, ⟨109, _⟩ => ⟨S8x4096x8x1, .f32⟩
  | .hbm, ⟨110, _⟩ => ⟨S8x4096x8x128, .f32⟩
  | .hbm, ⟨111, _⟩ => ⟨S8x4096x8x128, .f32⟩
  | .hbm, ⟨112, _⟩ => ⟨S1x1x1x128, .f32⟩
  | .hbm, ⟨113, _⟩ => ⟨S8x4096x8x128, .f32⟩
  | .hbm, ⟨114, _⟩ => ⟨S8x4096x8x128, .f32⟩
  | .hbm, ⟨115, _⟩ => ⟨S_, .f32⟩
  | .hbm, ⟨116, _⟩ => ⟨S8x4096x8x128, .f32⟩
  | .hbm, ⟨117, _⟩ => ⟨S8x4096x8x128, .f32⟩
  | .hbm, ⟨118, _⟩ => ⟨S8x4096x1024, .f32⟩
  | .hbm, ⟨119, _⟩ => ⟨S8x4352x1024, .f32⟩
  | .hbm, ⟨120, _⟩ => ⟨S8x4352x1024, .bf16⟩
  | _, _ => ⟨S8x4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_12 : Ref sig .tc := ⟨.hbm, 100, rfl⟩
abbrev main_v81 : Ref sig .tc := ⟨.hbm, 101, rfl⟩
abbrev main_v82 : Ref sig .tc := ⟨.hbm, 102, rfl⟩
abbrev main_cst_13 : Ref sig .tc := ⟨.hbm, 103, rfl⟩
abbrev main_v83 : Ref sig .tc := ⟨.hbm, 104, rfl⟩
abbrev main_v84 : Ref sig .tc := ⟨.hbm, 105, rfl⟩
abbrev main_cst_14 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_15 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩

abbrev nD : Nat := 1
abbrev τ : Topo := Topo.v7x

variable {F : FTy → Type} [FloatOps F]
-- ==== Qkv.lean ====
abbrev S8x4096x1024 : Shape := ⟨3, ![8, 4096, 1024]⟩
abbrev S8x256x1024 : Shape := ⟨3, ![8, 256, 1024]⟩
abbrev S1024 : Shape := ⟨1, ![1024]⟩
abbrev S8x6x1x1024 : Shape := ⟨4, ![8, 6, 1, 1024]⟩
abbrev S6x1024 : Shape := ⟨2, ![6, 1024]⟩
abbrev S1024x3072 : Shape := ⟨2, ![1024, 3072]⟩
abbrev S8x4352x1024 : Shape := ⟨3, ![8, 4352, 1024]⟩
abbrev S1x6x1024 : Shape := ⟨3, ![1, 6, 1024]⟩
abbrev S8x6x1024 : Shape := ⟨3, ![8, 6, 1024]⟩
abbrev S9x6x1024 : Shape := ⟨3, ![9, 6, 1024]⟩
abbrev S8x1x6x1024 : Shape := ⟨4, ![8, 1, 6, 1024]⟩
abbrev S8x2x6x1024 : Shape := ⟨4, ![8, 2, 6, 1024]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S16 : Shape := ⟨1, ![16]⟩
abbrev S4096x2x1 : Shape := ⟨3, ![4096, 2, 1]⟩
abbrev S1x1x16 : Shape := ⟨3, ![1, 1, 16]⟩
abbrev S4096x2x16 : Shape := ⟨3, ![4096, 2, 16]⟩
abbrev S4096x2x32 : Shape := ⟨3, ![4096, 2, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S256x128 : Shape := ⟨2, ![256, 128]⟩
abbrev S4352x128 : Shape := ⟨2, ![4352, 128]⟩
abbrev S8x2x2x1024 : Shape := ⟨4, ![8, 2, 2, 1024]⟩
abbrev S1x1024 : Shape := ⟨2, ![1, 1024]⟩
abbrev S8x4352x3072 : Shape := ⟨3, ![8, 4352, 3072]⟩
abbrev S1x256x1024 : Shape := ⟨3, ![1, 256, 1024]⟩
abbrev S1x1x2x1024 : Shape := ⟨4, ![1, 1, 2, 1024]⟩
abbrev S1x256x3072 : Shape := ⟨3, ![1, 256, 3072]⟩
abbrev S256x1024 : Shape := ⟨2, ![256, 1024]⟩
abbrev S2x1024 : Shape := ⟨2, ![2, 1024]⟩
abbrev S256 : Shape := ⟨1, ![256]⟩
abbrev S256x1 : Shape := ⟨2, ![256, 1]⟩
abbrev S256x3072 : Shape := ⟨2, ![256, 3072]⟩
abbrev S1x128 : Shape := ⟨2, ![1, 128]⟩
abbrev S1x256x128 : Shape := ⟨3, ![1, 256, 128]⟩

abbrev nBuf : Space → Nat
  | .hbm => 98
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x6x1x1024, .f32⟩
  | .hbm, ⟨4, _⟩ => ⟨S6x1024, .f32⟩
  | .hbm, ⟨5, _⟩ => ⟨S1024x3072, .f32⟩
  | .hbm, ⟨6, _⟩ => ⟨S8x4352x1024, .f32⟩
  | .hbm, ⟨7, _⟩ => ⟨S1x6x1024, .f32⟩
  | .hbm, ⟨8, _⟩ => ⟨S8x6x1024, .f32⟩
  | .hbm, ⟨9, _⟩ => ⟨S9x6x1024, .f32⟩
  | .hbm, ⟨10, _⟩ => ⟨S1x6x1024, .f32⟩
  | .hbm, ⟨11, _⟩ => ⟨S6x1024, .f32⟩
  | .hbm, ⟨12, _⟩ => ⟨S8x6x1024, .f32⟩
  | .hbm, ⟨13, _⟩ => ⟨S8x6x1024, .f32⟩
  | .hbm, ⟨14, _⟩ => ⟨S8x1x6x1024, .f32⟩
  | .hbm, ⟨15, _⟩ => ⟨S8x1x6x1024, .f32⟩
  | .hbm, ⟨16, _⟩ => ⟨S8x2x6x1024, .f32⟩
  | .hbm, ⟨17, _⟩ => ⟨S4096, .i32⟩
  | .hbm, ⟨18, _⟩ => ⟨S_, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S_, .i1⟩
  | .hbm, ⟨52, _⟩ => ⟨S4096, .i1⟩
  | .hbm, ⟨53, _⟩ => ⟨S4096, .i1⟩
  | .hbm, ⟨54, _⟩ => ⟨S4096, .i1⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096x1, .i32⟩
  | .hbm, ⟨60, _⟩ => ⟨S4096x2, .i32⟩
  | .hbm, ⟨61, _⟩ => ⟨S4096x2, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S4096x2x1, .f32⟩
  | .hbm, ⟨71, _⟩ => ⟨S1x1x16, .f32⟩
  | .hbm, ⟨72, _⟩ => ⟨S4096x2x16, .f32⟩
  | .hbm, ⟨73, _⟩ => ⟨S4096x2x16, .f32⟩
  | .hbm, ⟨74, _⟩ => ⟨S4096x2x16, .f32⟩
  | .hbm, ⟨75, _⟩ => ⟨S4096x2x16, .f32⟩
  | .hbm, ⟨76, _⟩ => ⟨S4096x2x16, .f32⟩
  | .hbm, ⟨77, _⟩ => ⟨S4096x2x32, .f32⟩
  | .hbm, ⟨78, _⟩ => ⟨S4096x64, .f32⟩
  | .hbm, ⟨79, _⟩ => ⟨S1x4096x1x64, .f32⟩
  | .hbm, ⟨80, _⟩ => ⟨S1x4096x2x64, .f32⟩
  | .hbm, ⟨81, _⟩ => ⟨S4096x128, .f32⟩
  | .hbm, ⟨82, _⟩ => ⟨S4096x2x16, .f32⟩
  | .hbm, ⟨83, _⟩ => ⟨S4096x2x32, .f32⟩
  | .hbm, ⟨84, _⟩ => ⟨S4096x64, .f32⟩
  | .hbm, ⟨85, _⟩ => ⟨S1x4096x1x64, .f32⟩
  | .hbm, ⟨86, _⟩ => ⟨S1x4096x2x64, .f32⟩
  | .hbm, ⟨87, _⟩ => ⟨S4096x128, .f32⟩
  | .hbm, ⟨88, _⟩ => ⟨S_, .f32⟩
  | .hbm, ⟨89, _⟩ => ⟨S256x128, .f32⟩
  | .hbm, ⟨90, _⟩ => ⟨S4352x128, .f32⟩
  | .hbm, ⟨91, _⟩ => ⟨S_, .f32⟩
  | .hbm, ⟨92, _⟩ => ⟨S256x128, .f32⟩
  | .hbm, ⟨93, _⟩ => ⟨S4352x128, .f32⟩
  | .hbm, ⟨94, _⟩ => ⟨S8x2x2x1024, .f32⟩
  | .hbm, ⟨95, _⟩ => ⟨S1024x3072, .bf16⟩
  | .hbm, ⟨96, _⟩ => ⟨S1x1024, .f32⟩
  | .hbm, ⟨97, _⟩ => ⟨S8x4352x3072, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x2x1024, .f32⟩
  | .local _ .vmem, ⟨4, _⟩ => ⟨S1x1x2x1024, .f32⟩
  | .local _ .vmem, ⟨5, _⟩ => ⟨S1024x3072, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256x3072, .bf16⟩
  | .local _ .vmem, ⟨11, _⟩ => ⟨S1x256x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v12 : Ref sig .tc := ⟨.hbm, 35, rfl⟩
abbrev main_c_0 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_cst : Ref sig .tc := ⟨.hbm, 64, rfl⟩
abbrev main_v20 : Ref sig .tc := ⟨.hbm, 65, rfl⟩
abbrev main_v21 : Ref sig .tc := ⟨.hbm, 66, rfl⟩
abbrev main_cst_1 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_2 : Ref sig .tc := ⟨.hbm, 88, rfl⟩
abbrev main_v42 : Ref sig .tc := ⟨.hbm, 89, rfl⟩
abbrev main_v43 : Ref sig .tc := ⟨.hbm, 90, rfl⟩
abbrev main_cst_3 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkvRefIdeal.lean ====
abbrev S8x4096x1024 : Shape := ⟨3, ![8, 4096, 1024]⟩
abbrev S8x256x1024 : Shape := ⟨3, ![8, 256, 1024]⟩
abbrev S1024 : Shape := ⟨1, ![1024]⟩
abbrev S8x6x1x1024 : Shape := ⟨4, ![8, 6, 1, 1024]⟩
abbrev S6x1024 : Shape := ⟨2, ![6, 1024]⟩
abbrev S1024x3072 : Shape := ⟨2, ![1024, 3072]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x256 : Shape := ⟨2, ![8, 256]⟩
abbrev S8x256x1 : Shape := ⟨3, ![8, 256, 1]⟩
abbrev S1x1024 : Shape := ⟨2, ![1, 1024]⟩
abbrev S8x256x3072 : Shape := ⟨3, ![8, 256, 3072]⟩
abbrev S8x256x8x2x64 : Shape := ⟨5, ![8, 256, 8, 2, 64]⟩
abbrev S8x256x8x128 : Shape := ⟨4, ![8, 256, 8, 128]⟩
abbrev S8x4096x3072 : Shape := ⟨3, ![8, 4096, 3072]⟩
abbrev S8x4096x8x2x64 : Shape := ⟨5, ![8, 4096, 8, 2, 64]⟩
abbrev S8x4096x8x128 : Shape := ⟨4, ![8, 4096, 8, 128]⟩
abbrev S64 : Shape := ⟨1, ![64]⟩
abbrev S64x64 : Shape := ⟨2, ![64, 64]⟩
abbrev S4096 : Shape := ⟨1, ![4096]⟩
abbrev S4096x1 : Shape := ⟨2, ![4096, 1]⟩
abbrev S4096x2 : Shape := ⟨2, ![4096, 2]⟩
abbrev S16 : Shape := ⟨1, ![16]⟩
abbrev S4096x2x1 : Shape := ⟨3, ![4096, 2, 1]⟩
abbrev S1x1x16 : Shape := ⟨3, ![1, 1, 16]⟩
abbrev S4096x2x16 : Shape := ⟨3, ![4096, 2, 16]⟩
abbrev S8x4096x8x2x2x2x16 : Shape := ⟨7, ![8, 4096, 8, 2, 2, 2, 16]⟩
abbrev S8x4096x8x2x2x1x16 : Shape := ⟨7, ![8, 4096, 8, 2, 2, 1, 16]⟩
abbrev S8x4096x8x2x2x16 : Shape := ⟨6, ![8, 4096, 8, 2, 2, 16]⟩
abbrev S1x4096x1x1x2x16 : Shape := ⟨6, ![1, 4096, 1, 1, 2, 16]⟩
abbrev S8x4352x8x2x64 : Shape := ⟨5, ![8, 4352, 8, 2, 64]⟩
abbrev S8x4352x8x128 : Shape := ⟨4, ![8, 4352, 8, 128]⟩
abbrev S8x4352x1024 : Shape := ⟨3, ![8, 4352, 1024]⟩
abbrev S8x4352x3072 : Shape := ⟨3, ![8, 4352, 3072]⟩

abbrev nBuf : Space → Nat
  | .hbm => 154
  | .vmem => 0
  | .smem => 0
  | _ => 0

abbrev hbmTy0_0 (i : Nat) : BufTy := match i % 128 with
  | 0 => ⟨S8x4096x1024, .f32⟩
  | 1 => ⟨S8x256x1024, .f32⟩
  | 2 => ⟨S1024, .f32⟩
  | 3 => ⟨S8x6x1x1024, .f32⟩
  | 4 => ⟨S6x1024, .f32⟩
  | 5 => ⟨S1024x3072, .f32⟩
  | 6 => ⟨S8x4096x1024, .f32⟩
  | 7 => ⟨S_, .f32⟩
  | 8 => ⟨S8x4096, .f32⟩
  | 9 => ⟨S8x4096x1, .f32⟩
  | 10 => ⟨S_, .f32⟩
  | 11 => ⟨S8x4096x1, .f32⟩
  | 12 => ⟨S8x4096x1, .f32⟩
  | 13 => ⟨S_, .f32⟩
  | 14 => ⟨S8x4096x1, .f32⟩
  | 15 => ⟨S8x4096x1, .f32⟩
  | 16 => ⟨S8x4096x1, .f32⟩
  | 17 => ⟨S8x4096x1024, .f32⟩
  | 18 => ⟨S8x4096x1024, .f32⟩
  | 19 => ⟨S1x1x1024, .f32⟩
  | 20 => ⟨S8x4096x1024, .f32⟩
  | 21 => ⟨S8x4096x1024, .f32⟩
  | 22 => ⟨S8x1x1x1024, .f32⟩
  | 23 => ⟨S8x1x1024, .f32⟩
  | 24 => ⟨S8x1x1x1024, .f32⟩
  | 25 => ⟨S8x1x1024, .f32⟩
  | 26 => ⟨S_, .f32⟩
  | 27 => ⟨S8x1x1024, .f32⟩
  | 28 => ⟨S8x1x1024, .f32⟩
  | 29 => ⟨S8x4096x1024, .f32⟩
  | 30 => ⟨S8x4096x1024, .f32⟩
  | 31 => ⟨S8x4096x1024, .f32⟩
  | 32 => ⟨S8x4096x1024, .f32⟩
  | 33 => ⟨S8x256x1024, .f32⟩
  | 34 => ⟨S_, .f32⟩
  | 35 => ⟨S8x256, .f32⟩
  | 36 => ⟨S8x256x1, .f32⟩
  | 37 => ⟨S_, .f32⟩
  | 38 => ⟨S8x256x1, .f32⟩
  | 39 => ⟨S8x256x1, .f32⟩
  | 40 => ⟨S_, .f32⟩
  | 41 => ⟨S8x256x1, .f32⟩
  | 42 => ⟨S8x256x1, .f32⟩
  | 43 => ⟨S8x256x1, .f32⟩
  | 44 => ⟨S8x256x1024, .f32⟩
  | 45 => ⟨S8x256x1024, .f32⟩
  | 46 => ⟨S1x1x1024, .f32⟩
  | 47 => ⟨S8x256x1024, .f32⟩
  | 48 => ⟨S8x256x1024, .f32⟩
  | 49 => ⟨S1x1024, .f32⟩
  | 50 => ⟨S1024, .f32⟩
  | 51 => ⟨S1x1024, .f32⟩
  | 52 => ⟨S1024, .f32⟩
  | 53 => ⟨S_, .f32⟩
  | 54 => ⟨S1024, .f32⟩
  | 55 => ⟨S1024, .f32⟩
  | 56 => ⟨S1x1x1024, .f32⟩
  | 57 => ⟨S8x256x1024, .f32⟩
  | 58 => ⟨S8x256x1024, .f32⟩
  | 59 => ⟨S1x1x1024, .f32⟩
  | 60 => ⟨S8x256x1024, .f32⟩
  | 61 => ⟨S8x256x1024, .f32⟩
  | 62 => ⟨S8x256x3072, .f32⟩
  | 63 => ⟨S8x256x1024, .f32⟩
  | 64 => ⟨S8x256x8x2x64, .f32⟩
  | 65 => ⟨S8x256x1024, .f32⟩
  | 66 => ⟨S8x256x8x2x64, .f32⟩
  | 67 => ⟨S8x256x1024, .f32⟩
  | 68 => ⟨S8x256x8x128, .f32⟩
  | 69 => ⟨S8x4096x3072, .f32⟩
  | 70 => ⟨S8x4096x1024, .f32⟩
  | 71 => ⟨S8x4096x8x2x64, .f32⟩
  | 72 => ⟨S8x4096x1024, .f32⟩
  | 73 => ⟨S8x4096x8x2x64, .f32⟩
  | 74 => ⟨S8x4096x1024, .f32⟩
  | 75 => ⟨S8x4096x8x128, .f32⟩
  | 76 => ⟨S64, .i32⟩
  | 77 => ⟨S64, .i32⟩
  | 78 => ⟨S64x64, .i32⟩
  | 79 => ⟨S64x64, .i32⟩
  | 80 => ⟨S4096, .i32⟩
  | 81 => ⟨S4096, .i32⟩
  | 82 => ⟨S4096x1, .i32⟩
  | 83 => ⟨S4096x1, .i32⟩
  | 84 => ⟨S4096x2, .i32⟩
  | 85 => ⟨S4096x2, .f32⟩
  | 86 => ⟨S16, .f32⟩
  | 87 => ⟨S16, .f32⟩
  | 88 => ⟨S_, .f32⟩
  | 89 => ⟨S16, .f32⟩
  | 90 => ⟨S16, .f32⟩
  | 91 => ⟨S_, .f32⟩
  | 92 => ⟨S16, .f32⟩
  | 93 => ⟨S16, .f32⟩
  | 94 => ⟨S4096x2x1, .f32⟩
  | 95 => ⟨S1x1x16, .f32⟩
  | 96 => ⟨S4096x2x16, .f32⟩
  | 97 => ⟨S4096x2x16, .f32⟩
  | 98 => ⟨S4096x2x16, .f32⟩
  | 99 => ⟨S4096x2x16, .f32⟩
  | 100 => ⟨S4096x2x16, .f32⟩
  | 101 => ⟨S8x4096x8x2x2x2x16, .f32⟩
  | 102 => ⟨S8x4096x8x2x2x1x16, .f32⟩
  | 103 => ⟨S8x4096x8x2x2x16, .f32⟩
  | 104 => ⟨S8x4096x8x2x2x1x16, .f32⟩
  | 105 => ⟨S8x4096x8x2x2x16, .f32⟩
  | 106 => ⟨S1x4096x1x1x2x16, .f32⟩
  | 107 => ⟨S1x4096x1x1x2x16, .f32⟩
  | 108 => ⟨S8x4096x8x2x2x16, .f32⟩
  | 109 => ⟨S8x4096x8x2x2x16, .f32⟩
  | 110 => ⟨S8x4096x8x2x2x16, .f32⟩
  | 111 => ⟨S8x4096x8x2x2x16, .f32⟩
  | 112 => ⟨S8x4096x8x2x2x16, .f32⟩
  | 113 => ⟨S8x4096x8x2x2x16, .f32⟩
  | 114 => ⟨S8x4096x8x2x2x16, .f32⟩
  | 115 => ⟨S8x4096x8x2x2x16, .f32⟩
  | 116 => ⟨S8x4096x8x2x2x16, .f32⟩
  | 117 => ⟨S8x4096x8x2x2x16, .f32⟩
  | 118 => ⟨S8x4096x8x2x2x1x16, .f32⟩
  | 119 => ⟨S8x4096x8x2x2x1x16, .f32⟩
  | 120 => ⟨S8x4096x8x2x2x2x16, .f32⟩
  | 121 => ⟨S8x4096x8x2x64, .f32⟩
  | 122 => ⟨S8x4096x8x2x2x2x16, .f32⟩
  | 123 => ⟨S8x4096x8x2x2x1x16, .f32⟩
  | 124 => ⟨S8x4096x8x2x2x16, .f32⟩
  | 125 => ⟨S8x4096x8x2x2x1x16, .f32⟩
  | 126 => ⟨S8x4096x8x2x2x16, .f32⟩
  | 127 => ⟨S1x4096x1x1x2x16, .f32⟩
  | _ => ⟨S8x4096x1024, .f32⟩

abbrev hbmTy0_1 (i : Nat) : BufTy := match i % 128 with
  | 0 => ⟨S1x4096x1x1x2x16, .f32⟩
  | 1 => ⟨S8x4096x8x2x2x16, .f32⟩
  | 2 => ⟨S8x4096x8x2x2x16, .f32⟩
  | 3 => ⟨S8x4096x8x2x2x16, .f32⟩
  | 4 => ⟨S8x4096x8x2x2x16, .f32⟩
  | 5 => ⟨S8x4096x8x2x2x16, .f32⟩
  | 6 => ⟨S8x4096x8x2x2x16, .f32⟩
  | 7 => ⟨S8x4096x8x2x2x16, .f32⟩
  | 8 => ⟨S8x4096x8x2x2x16, .f32⟩
  | 9 => ⟨S8x4096x8x2x2x16, .f32⟩
  | 10 => ⟨S8x4096x8x2x2x16, .f32⟩
  | 11 => ⟨S8x4096x8x2x2x1x16, .f32⟩
  | 12 => ⟨S8x4096x8x2x2x1x16, .f32⟩
  | 13 => ⟨S8x4096x8x2x2x2x16, .f32⟩
  | 14 => ⟨S8x4096x8x2x64, .f32⟩
  | 15 => ⟨S8x4352x8x2x64, .f32⟩
  | 16 => ⟨S_, .f32⟩
  | 17 => ⟨S8x4352x8x2x64, .f32⟩
  | 18 => ⟨S8x4352x8x2x64, .f32⟩
  | 19 => ⟨S8x4352x8x2x64, .f32⟩
  | 20 => ⟨S8x4352x8x128, .f32⟩
  | 21 => ⟨S8x4352x1024, .f32⟩
  | 22 => ⟨S8x4352x1024, .f32⟩
  | 23 => ⟨S8x4352x1024, .f32⟩
  | 24 => ⟨S8x4352x3072, .f32⟩
  | 25 => ⟨S8x4352x3072, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_7 : Ref sig .tc := ⟨.hbm, 88, rfl⟩
abbrev main_v74 : Ref sig .tc := ⟨.hbm, 89, rfl⟩
abbrev main_v75 : Ref sig .tc := ⟨.hbm, 90, rfl⟩
abbrev main_cst_8 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_cst_9 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩

abbrev nD : Nat := 1
abbrev τ : Topo := Topo.v7x

variable {F : FTy → Type} [FloatOps F]
-- ==== PeerQ.lean ====
abbrev S8x4096x1024 : Shape := ⟨3, ![8, 4096, 1024]⟩
abbrev S8x256x1024 : Shape := ⟨3, ![8, 256, 1024]⟩
abbrev S1024 : Shape := ⟨1, ![1024]⟩
abbrev S8x6x1x1024 : Shape := ⟨4, ![8, 6, 1, 1024]⟩
abbrev S6x1024 : Shape := ⟨2, ![6, 1024]⟩
abbrev S1024x2048 : Shape := ⟨2, ![1024, 2048]⟩
abbrev S8x4352x1024 : Shape := ⟨3, ![8, 4352, 1024]⟩
abbrev S1x6x1024 : Shape := ⟨3, ![1, 6, 1024]⟩
abbrev S8x6x1024 : Shape := ⟨3, ![8, 6, 1024]⟩
abbrev S9x6x1024 : Shape := ⟨3, ![9, 6, 1024]⟩
abbrev S8x1x6x1024 : Shape := ⟨4, ![8, 1, 6, 1024]⟩
abbrev S8x2x6x1024 : Shape := ⟨4, ![8, 2, 6, 1024]⟩
abbrev S8x2x2x1024 : Shape := ⟨4, ![8, 2, 2, 1024]⟩
abbrev S1x1024 : Shape := ⟨2, ![1, 1024]⟩
abbrev S8x4352x2048 : Shape := ⟨3, ![8, 4352, 2048]⟩
abbrev S1x256x1024 : Shape := ⟨3, ![1, 256, 1024]⟩
abbrev S1x1x2x1024 : Shape := ⟨4, ![1, 1, 2, 1024]⟩
abbrev S1x256x2048 : Shape := ⟨3, ![1, 256, 2048]⟩
abbrev S256x1024 : Shape := ⟨2, ![256, 1024]⟩
abbrev S2x1024 : Shape := ⟨2, ![2, 1024]⟩
abbrev S256 : Shape := ⟨1, ![256]⟩
abbrev S256x1 : Shape := ⟨2, ![256, 1]⟩
abbrev S256x2048 : Shape := ⟨2, ![256, 2048]⟩

abbrev nBuf : Space → Nat
  | .hbm => 22
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x6x1x1024, .f32⟩
  | .hbm, ⟨4, _⟩ => ⟨S6x1024, .f32⟩
  | .hbm, ⟨5, _⟩ => ⟨S1024x2048, .f32⟩
  | .hbm, ⟨6, _⟩ => ⟨S8x4352x1024, .f32⟩
  | .hbm, ⟨7, _⟩ => ⟨S1x6x1024, .f32⟩
  | .hbm, ⟨8, _⟩ => ⟨S8x6x1024, .f32⟩
  | .hbm, ⟨9, _⟩ => ⟨S9x6x1024, .f32⟩
  | .hbm, ⟨10, _⟩ => ⟨S1x6x1024, .f32⟩
  | .hbm, ⟨11, _⟩ => ⟨S6x1024, .f32⟩
  | .hbm, ⟨12, _⟩ => ⟨S8x6x1024, .f32⟩
  | .hbm, ⟨13, _⟩ => ⟨S8x6x1024, .f32⟩
  | .hbm, ⟨14, _⟩ => ⟨S8x1x6x1024, .f32⟩
  | .hbm, ⟨15, _⟩ => ⟨S8x1x6x1024, .f32⟩
  | .hbm, ⟨16, _⟩ => ⟨S8x2x6x1024, .f32⟩
  | .hbm, ⟨17, _⟩ => ⟨S8x2x2x1024, .f32⟩
  | .hbm, ⟨18, _⟩ => ⟨S1024x2048, .bf16⟩
  | .hbm, ⟨19, _⟩ => ⟨S1x1024, .f32⟩
  | .hbm, ⟨20, _⟩ => ⟨S8x4352x1024, .f32⟩
  | .hbm, ⟨21, _⟩ => ⟨S8x4352x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x2x1024, .f32⟩
  | .local _ .vmem, ⟨4, _⟩ => ⟨S1x1x2x1024, .f32⟩
  | .local _ .vmem, ⟨5, _⟩ => ⟨S1024x2048, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x2048, .f32⟩
  | .local _ .vmem, ⟨9, _⟩ => ⟨S1x256x2048, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PeerQRefIdeal.lean ====
abbrev S8x4096x1024 : Shape := ⟨3, ![8, 4096, 1024]⟩
abbrev S8x256x1024 : Shape := ⟨3, ![8, 256, 1024]⟩
abbrev S1024 : Shape := ⟨1, ![1024]⟩
abbrev S8x6x1x1024 : Shape := ⟨4, ![8, 6, 1, 1024]⟩
abbrev S6x1024 : Shape := ⟨2, ![6, 1024]⟩
abbrev S1024x2048 : Shape := ⟨2, ![1024, 2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x256 : Shape := ⟨2, ![8, 256]⟩
abbrev S8x256x1 : Shape := ⟨3, ![8, 256, 1]⟩
abbrev S1x1024 : Shape := ⟨2, ![1, 1024]⟩
abbrev S8x4352x1024 : Shape := ⟨3, ![8, 4352, 1024]⟩
abbrev S8x4352x2048 : Shape := ⟨3, ![8, 4352, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x6x1x1024, .f32⟩
  | .hbm, ⟨4, _⟩ => ⟨S6x1024, .f32⟩
  | .hbm, ⟨5, _⟩ => ⟨S1024x2048, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x1x1x1024, .f32⟩
  | .hbm, ⟨23, _⟩ => ⟨S8x1x1024, .f32⟩
  | .hbm, ⟨24, _⟩ => ⟨S8x1x1x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x256x1024, .f32⟩
  | .hbm, ⟨34, _⟩ => ⟨S_, .f32⟩
  | .hbm, ⟨35, _⟩ => ⟨S8x256, .f32⟩
  | .hbm, ⟨36, _⟩ => ⟨S8x256x1, .f32⟩
  | .hbm, ⟨37, _⟩ => ⟨S_, .f32⟩
  | .hbm, ⟨38, _⟩ => ⟨S8x256x1, .f32⟩
  | .hbm, ⟨39, _⟩ => ⟨S8x256x1, .f32⟩
  | .hbm, ⟨40, _⟩ => ⟨S_, .f32⟩
  | .hbm, ⟨41, _⟩ => ⟨S8x256x1, .f32⟩
  | .hbm, ⟨42, _⟩ => ⟨S8x256x1, .f32⟩
  | .hbm, ⟨43, _⟩ => ⟨S8x256x1, .f32⟩
  | .hbm, ⟨44, _⟩ => ⟨S8x256x1024, .f32⟩
  | .hbm, ⟨45, _⟩ => ⟨S8x256x1024, .f32⟩
  | .hbm, ⟨46, _⟩ => ⟨S1x1x1024, .f32⟩
  | .hbm, ⟨47, _⟩ => ⟨S8x256x1024, .f32⟩
  | .hbm, ⟨48, _⟩ => ⟨S8x256x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1x1x1024, .f32⟩
  | .hbm, ⟨57, _⟩ => ⟨S8x256x1024, .f32⟩
  | .hbm, ⟨58, _⟩ => ⟨S8x256x1024, .f32⟩
  | .hbm, ⟨59, _⟩ => ⟨S1x1x1024, .f32⟩
  | .hbm, ⟨60, _⟩ => ⟨S8x256x1024, .f32⟩
  | .hbm, ⟨61, _⟩ => ⟨S8x256x1024, .f32⟩
  | .hbm, ⟨62, _⟩ => ⟨S8x4352x1024, .f32⟩
  | .hbm, ⟨63, _⟩ => ⟨S8x4352x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== InProj.lean ====
abbrev S8x4096x1024 : Shape := ⟨3, ![8, 4096, 1024]⟩
abbrev S8x256x1024 : Shape := ⟨3, ![8, 256, 1024]⟩
abbrev S1024 : Shape := ⟨1, ![1024]⟩
abbrev S8x6x1x1024 : Shape := ⟨4, ![8, 6, 1, 1024]⟩
abbrev S6x1024 : Shape := ⟨2, ![6, 1024]⟩
abbrev S1024x3600 : Shape := ⟨2, ![1024, 3600]⟩
abbrev S8x4352x1024 : Shape := ⟨3, ![8, 4352, 1024]⟩
abbrev S1x6x1024 : Shape := ⟨3, ![1, 6, 1024]⟩
abbrev S8x6x1024 : Shape := ⟨3, ![8, 6, 1024]⟩
abbrev S9x6x1024 : Shape := ⟨3, ![9, 6, 1024]⟩
abbrev S8x1x6x1024 : Shape := ⟨4, ![8, 1, 6, 1024]⟩
abbrev S8x2x6x1024 : Shape := ⟨4, ![8, 2, 6, 1024]⟩
abbrev S_ : Shape := ⟨0, ![]⟩
abbrev S1024x3712 : Shape := ⟨2, ![1024, 3712]⟩
abbrev S8x2x2x1024 : Shape := ⟨4, ![8, 2, 2, 1024]⟩
abbrev S1x1024 : Shape := ⟨2, ![1, 1024]⟩
abbrev S8x4352x3712 : Shape := ⟨3, ![8, 4352, 3712]⟩
abbrev S1x256x1024 : Shape := ⟨3, ![1, 256, 1024]⟩
abbrev S1x1x2x1024 : Shape := ⟨4, ![1, 1, 2, 1024]⟩
abbrev S1x256x3712 : Shape := ⟨3, ![1, 256, 3712]⟩
abbrev S256x1024 : Shape := ⟨2, ![256, 1024]⟩
abbrev S2x1024 : Shape := ⟨2, ![2, 1024]⟩
abbrev S256 : Shape := ⟨1, ![256]⟩
abbrev S256x1 : Shape := ⟨2, ![256, 1]⟩
abbrev S256x3712 : Shape := ⟨2, ![256, 3712]⟩
abbrev S8x4352x3600 : Shape := ⟨3, ![8, 4352, 3600]⟩

abbrev nBuf : Space → Nat
  | .hbm => 25
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x6x1x1024, .f32⟩
  | .hbm, ⟨4, _⟩ => ⟨S6x1024, .f32⟩
  | .hbm, ⟨5, _⟩ => ⟨S1024x3600, .f32⟩
  | .hbm, ⟨6, _⟩ => ⟨S8x4352x1024, .f32⟩
  | .hbm, ⟨7, _⟩ => ⟨S1x6x1024, .f32⟩
  | .hbm, ⟨8, _⟩ => ⟨S8x6x1024, .f32⟩
  | .hbm, ⟨9, _⟩ => ⟨S9x6x1024, .f32⟩
  | .hbm, ⟨10, _⟩ => ⟨S1x6x1024, .f32⟩
  | .hbm, ⟨11, _⟩ => ⟨S6x1024, .f32⟩
  | .hbm, ⟨12, _⟩ => ⟨S8x6x1024, .f32⟩
  | .hbm, ⟨13, _⟩ => ⟨S8x6x1024, .f32⟩
  | .hbm, ⟨14, _⟩ => ⟨S8x1x6x1024, .f32⟩
  | .hbm, ⟨15, _⟩ => ⟨S8x1x6x1024, .f32⟩
  | .hbm, ⟨16, _⟩ => ⟨S8x2x6x1024, .f32⟩
  | .hbm, ⟨17, _⟩ => ⟨S_, .i32⟩
  | .hbm, ⟨18, _⟩ => ⟨S_, .f32⟩
  | .hbm, ⟨19, _⟩ => ⟨S1024x3712, .f32⟩
  | .hbm, ⟨20, _⟩ => ⟨S1024x3712, .bf16⟩
  | .hbm, ⟨21, _⟩ => ⟨S8x2x2x1024, .f32⟩
  | .hbm, ⟨22, _⟩ => ⟨S1x1024, .f32⟩
  | .hbm, ⟨23, _⟩ => ⟨S8x4352x3712, .f32⟩
  | .hbm, ⟨24, _⟩ => ⟨S8x4352x3600, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x2x1024, .f32⟩
  | .local _ .vmem, ⟨4, _⟩ => ⟨S1x1x2x1024, .f32⟩
  | .local _ .vmem, ⟨5, _⟩ => ⟨S1024x3712, .bf16⟩
  | .local _ .vmem, ⟨6, _⟩ => ⟨S1x256x3712, .f32⟩
  | .local _ .vmem, ⟨7, _⟩ => ⟨S1x256x3712, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x3712 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S8x4096x1024 : Shape := ⟨3, ![8, 4096, 1024]⟩
abbrev S8x256x1024 : Shape := ⟨3, ![8, 256, 1024]⟩
abbrev S1024 : Shape := ⟨1, ![1024]⟩
abbrev S8x6x1x1024 : Shape := ⟨4, ![8, 6, 1, 1024]⟩
abbrev S6x1024 : Shape := ⟨2, ![6, 1024]⟩
abbrev S1024x3600 : Shape := ⟨2, ![1024, 3600]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x256 : Shape := ⟨2, ![8, 256]⟩
abbrev S8x256x1 : Shape := ⟨3, ![8, 256, 1]⟩
abbrev S1x1024 : Shape := ⟨2, ![1, 1024]⟩
abbrev S8x256x3600 : Shape := ⟨3, ![8, 256, 3600]⟩
abbrev S8x4096x3600 : Shape := ⟨3, ![8, 4096, 3600]⟩
abbrev S8x4352x3600 : Shape := ⟨3, ![8, 4352, 3600]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S8x6x1x1024, .f32⟩
  | .hbm, ⟨4, _⟩ => ⟨S6x1024, .f32⟩
  | .hbm, ⟨5, _⟩ => ⟨S1024x3600, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x1x1x1024, .f32⟩
  | .hbm, ⟨23, _⟩ => ⟨S8x1x1024, .f32⟩
  | .hbm, ⟨24, _⟩ => ⟨S8x1x1x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x256x1024, .f32⟩
  | .hbm, ⟨34, _⟩ => ⟨S_, .f32⟩
  | .hbm, ⟨35, _⟩ => ⟨S8x256, .f32⟩
  | .hbm, ⟨36, _⟩ => ⟨S8x256x1, .f32⟩
  | .hbm, ⟨37, _⟩ => ⟨S_, .f32⟩
  | .hbm, ⟨38, _⟩ => ⟨S8x256x1, .f32⟩
  | .hbm, ⟨39, _⟩ => ⟨S8x256x1, .f32⟩
  | .hbm, ⟨40, _⟩ => ⟨S_, .f32⟩
  | .hbm, ⟨41, _⟩ => ⟨S8x256x1, .f32⟩
  | .hbm, ⟨42, _⟩ => ⟨S8x256x1, .f32⟩
  | .hbm, ⟨43, _⟩ => ⟨S8x256x1, .f32⟩
  | .hbm, ⟨44, _⟩ => ⟨S8x256x1024, .f32⟩
  | .hbm, ⟨45, _⟩ => ⟨S8x256x1024, .f32⟩
  | .hbm, ⟨46, _⟩ => ⟨S1x1x1024, .f32⟩
  | .hbm, ⟨47, _⟩ => ⟨S8x256x1024, .f32⟩
  | .hbm, ⟨48, _⟩ => ⟨S8x256x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1x1x1024, .f32⟩
  | .hbm, ⟨57, _⟩ => ⟨S8x256x1024, .f32⟩
  | .hbm, ⟨58, _⟩ => ⟨S8x256x1024, .f32⟩
  | .hbm, ⟨59, _⟩ => ⟨S1x1x1024, .f32⟩
  | .hbm, ⟨60, _⟩ => ⟨S8x256x1024, .f32⟩
  | .hbm, ⟨61, _⟩ => ⟨S8x256x1024, .f32⟩
  | .hbm, ⟨62, _⟩ => ⟨S8x256x3600, .f32⟩
  | .hbm, ⟨63, _⟩ => ⟨S8x4096x3600, .f32⟩
  | .hbm, ⟨64, _⟩ => ⟨S8x4352x3600, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== OutOdd.lean ====
abbrev S8x4352x1024 : Shape := ⟨3, ![8, 4352, 1024]⟩
abbrev S8x4096x1024 : Shape := ⟨3, ![8, 4096, 1024]⟩
abbrev S8x256x1024 : Shape := ⟨3, ![8, 256, 1024]⟩
abbrev S8x6x1x1024 : Shape := ⟨4, ![8, 6, 1, 1024]⟩
abbrev S6x1024 : Shape := ⟨2, ![6, 1024]⟩
abbrev S1024x1024 : Shape := ⟨2, ![1024, 1024]⟩
abbrev S1x6x1024 : Shape := ⟨3, ![1, 6, 1024]⟩
abbrev S8x6x1024 : Shape := ⟨3, ![8, 6, 1024]⟩
abbrev S9x6x1024 : Shape := ⟨3, ![9, 6, 1024]⟩
abbrev S8x1x6x1024 : Shape := ⟨4, ![8, 1, 6, 1024]⟩
abbrev S8x2x6x1024 : Shape := ⟨4, ![8, 2, 6, 1024]⟩
abbrev S8x2x1x1024 : Shape := ⟨4, ![8, 2, 1, 1024]⟩
abbrev S1x256x1024 : Shape := ⟨3, ![1, 256, 1024]⟩
abbrev S1x1x1x1024 : Shape := ⟨4, ![1, 1, 1, 1024]⟩
abbrev S256x1024 : Shape := ⟨2, ![256, 1024]⟩
abbrev S1x1024 : Shape := ⟨2, ![1, 1024]⟩

abbrev nBuf : Space → Nat
  | .hbm => 20
  | .vmem => 9
  | .smem => 0
  | _ => 0

abbrev bufTy : (tb : Table) → Fin (tcTables nBuf tb) → BufTy
  | .hbm, ⟨0, _⟩ => ⟨S8x4352x1024, .bf16⟩
  | .hbm, ⟨1, _⟩ => ⟨S8x4096x1024, .f32⟩
  | .hbm, ⟨2, _⟩ => ⟨S8x256x1024, .f32⟩
  | .hbm, ⟨3, _⟩ => ⟨S8x6x1x1024, .f32⟩
  | .hbm, ⟨4, _⟩ => ⟨S6x1024, .f32⟩
  | .hbm, ⟨5, _⟩ => ⟨S1024x1024, .f32⟩
  | .hbm, ⟨6, _⟩ => ⟨S8x4352x1024, .f32⟩
  | .hbm, ⟨7, _⟩ => ⟨S1x6x1024, .f32⟩
  | .hbm, ⟨8, _⟩ => ⟨S8x6x1024, .f32⟩
  | .hbm, ⟨9, _⟩ => ⟨S9x6x1024, .f32⟩
  | .hbm, ⟨10, _⟩ => ⟨S1x6x1024, .f32⟩
  | .hbm, ⟨11, _⟩ => ⟨S6x1024, .f32⟩
  | .hbm, ⟨12, _⟩ => ⟨S8x6x1024, .f32⟩
  | .hbm, ⟨13, _⟩ => ⟨S8x6x1024, .f32⟩
  | .hbm, ⟨14, _⟩ => ⟨S8x1x6x1024, .f32⟩
  | .hbm, ⟨15, _⟩ => ⟨S8x1x6x1024, .f32⟩
  | .hbm, ⟨16, _⟩ => ⟨S8x2x6x1024, .f32⟩
  | .hbm, ⟨17, _⟩ => ⟨S1024x1024, .bf16⟩
  | .hbm, ⟨18, _⟩ => ⟨S8x2x1x1024, .f32⟩
  | .hbm, ⟨19, _⟩ => ⟨S8x4352x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x256x1024, .f32⟩
  | .local _ .vmem, ⟨8, _⟩ => ⟨S1x256x1024, .f32⟩
  | _, _ => ⟨S8x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutOddIdeal.lean ====
abbrev S8x4352x1024 : Shape := ⟨3, ![8, 4352, 1024]⟩
abbrev S8x4096x1024 : Shape := ⟨3, ![8, 4096, 1024]⟩
abbrev S8x256x1024 : Shape := ⟨3, ![8, 256, 1024]⟩
abbrev S8x6x1x1024 : Shape := ⟨4, ![8, 6, 1, 1024]⟩
abbrev S6x1024 : Shape := ⟨2, ![6, 1024]⟩
abbrev S1024x1024 : Shape := ⟨2, ![1024, 1024]⟩
abbrev S1x6x1024 : Shape := ⟨3, ![1, 6, 1024]⟩
abbrev S8x6x1024 : Shape := ⟨3, ![8, 6, 1024]⟩
abbrev S9x6x1024 : Shape := ⟨3, ![9, 6, 1024]⟩
abbrev S8x1x6x1024 : Shape := ⟨4, ![8, 1, 6, 1024]⟩
abbrev S8x2x6x1024 : Shape := ⟨4, ![8, 2, 6, 1024]⟩
abbrev S8x2x1x1024 : Shape := ⟨4, ![8, 2, 1, 1024]⟩
abbrev S1x256x1024 : Shape := ⟨3, ![1, 256, 1024]⟩
abbrev S1x1x1x1024 : Shape := ⟨4, ![1, 1, 1, 1024]⟩
abbrev S256x1024 : Shape := ⟨2, ![256, 1024]⟩
abbrev S1x1024 : Shape := ⟨2, ![1, 1024]⟩

abbrev nBuf : Space → Nat
  | .hbm => 20
  | .vmem => 9
  | .smem => 0
  | _ => 0

abbrev bufTy : (tb : Table) → Fin (tcTables nBuf tb) → BufTy
  | .hbm, ⟨0, _⟩ => ⟨S8x4352x1024, .bf16⟩
  | .hbm, ⟨1, _⟩ => ⟨S8x4096x1024, .f32⟩
  | .hbm, ⟨2, _⟩ => ⟨S8x256x1024, .f32⟩
  | .hbm, ⟨3, _⟩ => ⟨S8x6x1x1024, .f32⟩
  | .hbm, ⟨4, _⟩ => ⟨S6x1024, .f32⟩
  | .hbm, ⟨5, _⟩ => ⟨S1024x1024, .f32⟩
  | .hbm, ⟨6, _⟩ => ⟨S8x4352x1024, .f32⟩
  | .hbm, ⟨7, _⟩ => ⟨S1x6x1024, .f32⟩
  | .hbm, ⟨8, _⟩ => ⟨S8x6x1024, .f32⟩
  | .hbm, ⟨9, _⟩ => ⟨S9x6x1024, .f32⟩
  | .hbm, ⟨10, _⟩ => ⟨S1x6x1024, .f32⟩
  | .hbm, ⟨11, _⟩ => ⟨S6x1024, .f32⟩
  | .hbm, ⟨12, _⟩ => ⟨S8x6x1024, .f32⟩
  | .hbm, ⟨13, _⟩ => ⟨S8x6x1024, .f32⟩
  | .hbm, ⟨14, _⟩ => ⟨S8x1x6x1024, .f32⟩
  | .hbm, ⟨15, _⟩ => ⟨S8x1x6x1024, .f32⟩
  | .hbm, ⟨16, _⟩ => ⟨S8x2x6x1024, .f32⟩
  | .hbm, ⟨17, _⟩ => ⟨S1024x1024, .bf16⟩
  | .hbm, ⟨18, _⟩ => ⟨S8x2x1x1024, .f32⟩
  | .hbm, ⟨19, _⟩ => ⟨S8x4352x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x256x1024, .f32⟩
  | .local _ .vmem, ⟨8, _⟩ => ⟨S1x256x1024, .f32⟩
  | _, _ => ⟨S8x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutOddRefIdeal.lean ====
abbrev S8x4352x1024 : Shape := ⟨3, ![8, 4352, 1024]⟩
abbrev S8x4096x1024 : Shape := ⟨3, ![8, 4096, 1024]⟩
abbrev S8x256x1024 : Shape := ⟨3, ![8, 256, 1024]⟩
abbrev S8x6x1x1024 : Shape := ⟨4, ![8, 6, 1, 1024]⟩
abbrev S6x1024 : Shape := ⟨2, ![6, 1024]⟩
abbrev S1024x1024 : Shape := ⟨2, ![1024, 1024]⟩
abbrev S8x1x1x1024 : Shape := ⟨4, ![8, 1, 1, 1024]⟩
abbrev S8x1x1024 : Shape := ⟨3, ![8, 1, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x4352x1024, .bf16⟩
  | .hbm, ⟨1, _⟩ => ⟨S8x4096x1024, .f32⟩
  | .hbm, ⟨2, _⟩ => ⟨S8x256x1024, .f32⟩
  | .hbm, ⟨3, _⟩ => ⟨S8x6x1x1024, .f32⟩
  | .hbm, ⟨4, _⟩ => ⟨S6x1024, .f32⟩
  | .hbm, ⟨5, _⟩ => ⟨S1024x1024, .f32⟩
  | .hbm, ⟨6, _⟩ => ⟨S8x4352x1024, .f32⟩
  | .hbm, ⟨7, _⟩ => ⟨S8x256x1024, .f32⟩
  | .hbm, ⟨8, _⟩ => ⟨S8x256x1024, .f32⟩
  | .hbm, ⟨9, _⟩ => ⟨S8x4096x1024, .f32⟩
  | .hbm, ⟨10, _⟩ => ⟨S8x4096x1024, .f32⟩
  | .hbm, ⟨11, _⟩ => ⟨S8x1x1x1024, .f32⟩
  | .hbm, ⟨12, _⟩ => ⟨S8x1x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S8x256x1024, .f32⟩
  | .hbm, ⟨22, _⟩ => ⟨S8x4352x1024, .f32⟩
  | _, _ => ⟨S8x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== OutEven.lean ====
abbrev S8x4352x1024 : Shape := ⟨3, ![8, 4352, 1024]⟩
abbrev S8x4096x1024 : Shape := ⟨3, ![8, 4096, 1024]⟩
abbrev S8x256x1024 : Shape := ⟨3, ![8, 256, 1024]⟩
abbrev S8x6x1x1024 : Shape := ⟨4, ![8, 6, 1, 1024]⟩
abbrev S6x1024 : Shape := ⟨2, ![6, 1024]⟩
abbrev S1024x1024 : Shape := ⟨2, ![1024, 1024]⟩
abbrev S1x6x1024 : Shape := ⟨3, ![1, 6, 1024]⟩
abbrev S8x6x1024 : Shape := ⟨3, ![8, 6, 1024]⟩
abbrev S9x6x1024 : Shape := ⟨3, ![9, 6, 1024]⟩
abbrev S8x1x6x1024 : Shape := ⟨4, ![8, 1, 6, 1024]⟩
abbrev S8x2x6x1024 : Shape := ⟨4, ![8, 2, 6, 1024]⟩
abbrev S8x2x1x1024 : Shape := ⟨4, ![8, 2, 1, 1024]⟩
abbrev S1x256x1024 : Shape := ⟨3, ![1, 256, 1024]⟩
abbrev S1x1x1x1024 : Shape := ⟨4, ![1, 1, 1, 1024]⟩
abbrev S256x1024 : Shape := ⟨2, ![256, 1024]⟩
abbrev S1x1024 : Shape := ⟨2, ![1, 1024]⟩

abbrev nBuf : Space → Nat
  | .hbm => 20
  | .vmem => 9
  | .smem => 0
  | _ => 0

abbrev bufTy : (tb : Table) → Fin (tcTables nBuf tb) → BufTy
  | .hbm, ⟨0, _⟩ => ⟨S8x4352x1024, .f32⟩
  | .hbm, ⟨1, _⟩ => ⟨S8x4096x1024, .f32⟩
  | .hbm, ⟨2, _⟩ => ⟨S8x256x1024, .f32⟩
  | .hbm, ⟨3, _⟩ => ⟨S8x6x1x1024, .f32⟩
  | .hbm, ⟨4, _⟩ => ⟨S6x1024, .f32⟩
  | .hbm, ⟨5, _⟩ => ⟨S1024x1024, .f32⟩
  | .hbm, ⟨6, _⟩ => ⟨S8x4352x1024, .f32⟩
  | .hbm, ⟨7, _⟩ => ⟨S1x6x1024, .f32⟩
  | .hbm, ⟨8, _⟩ => ⟨S8x6x1024, .f32⟩
  | .hbm, ⟨9, _⟩ => ⟨S9x6x1024, .f32⟩
  | .hbm, ⟨10, _⟩ => ⟨S1x6x1024, .f32⟩
  | .hbm, ⟨11, _⟩ => ⟨S6x1024, .f32⟩
  | .hbm, ⟨12, _⟩ => ⟨S8x6x1024, .f32⟩
  | .hbm, ⟨13, _⟩ => ⟨S8x6x1024, .f32⟩
  | .hbm, ⟨14, _⟩ => ⟨S8x1x6x1024, .f32⟩
  | .hbm, ⟨15, _⟩ => ⟨S8x1x6x1024, .f32⟩
  | .hbm, ⟨16, _⟩ => ⟨S8x2x6x1024, .f32⟩
  | .hbm, ⟨17, _⟩ => ⟨S1024x1024, .bf16⟩
  | .hbm, ⟨18, _⟩ => ⟨S8x2x1x1024, .f32⟩
  | .hbm, ⟨19, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x256x1024, .f32⟩
  | .local _ .vmem, ⟨8, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutEvenRefIdeal.lean ====
abbrev S8x4352x1024 : Shape := ⟨3, ![8, 4352, 1024]⟩
abbrev S8x4096x1024 : Shape := ⟨3, ![8, 4096, 1024]⟩
abbrev S8x256x1024 : Shape := ⟨3, ![8, 256, 1024]⟩
abbrev S8x6x1x1024 : Shape := ⟨4, ![8, 6, 1, 1024]⟩
abbrev S6x1024 : Shape := ⟨2, ![6, 1024]⟩
abbrev S1024x1024 : Shape := ⟨2, ![1024, 1024]⟩
abbrev S8x1x1x1024 : Shape := ⟨4, ![8, 1, 1, 1024]⟩
abbrev S8x1x1024 : Shape := ⟨3, ![8, 1, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4096x1024, .f32⟩
  | .hbm, ⟨2, _⟩ => ⟨S8x256x1024, .f32⟩
  | .hbm, ⟨3, _⟩ => ⟨S8x6x1x1024, .f32⟩
  | .hbm, ⟨4, _⟩ => ⟨S6x1024, .f32⟩
  | .hbm, ⟨5, _⟩ => ⟨S1024x1024, .f32⟩
  | .hbm, ⟨6, _⟩ => ⟨S8x256x1024, .f32⟩
  | .hbm, ⟨7, _⟩ => ⟨S8x256x1024, .f32⟩
  | .hbm, ⟨8, _⟩ => ⟨S8x4096x1024, .f32⟩
  | .hbm, ⟨9, _⟩ => ⟨S8x4096x1024, .f32⟩
  | .hbm, ⟨10, _⟩ => ⟨S8x1x1x1024, .f32⟩
  | .hbm, ⟨11, _⟩ => ⟨S8x1x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Softmax.lean ====
/- The mathematics of differential attention over the extended reals: when the scores of a row are real
   numbers, a softmax weight taken as a product with a reciprocal is the quotient, and the difference of two
   weighted exponentials is the difference of the two softmaxes. -/
module

public import Idealize.ShloMosaic.Lib.Pipeline.ValueKit
public import Idealize.ShloMosaic.Lib.Pointwise

@[expose] public section

set_option maxRecDepth 16384

noncomputable section

open Idealize.ShloMosaic

namespace Cert.Attn

/-- An extended real that is a real number. -/
def IsReal (x : EReal) : Prop := ∃ r : ℝ, x = (r : EReal)

theorem IsReal.of_ne {x : EReal} (h₁ : ⊥ < x) (h₂ : x < ⊤) : IsReal x := by
  lift x to ℝ using ⟨h₂.ne, h₁.ne'⟩
  exact ⟨x, rfl⟩

theorem IsReal.bot_lt {x : EReal} (h : IsReal x) : ⊥ < x := by
  obtain ⟨r, rfl⟩ := h
  exact EReal.bot_lt_coe r

theorem IsReal.lt_top {x : EReal} (h : IsReal x) : x < ⊤ := by
  obtain ⟨r, rfl⟩ := h
  exact EReal.coe_lt_top r

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) {f : ι → EReal} (h : ∀ i, IsReal (f i)) : IsReal (∑ i ∈ s, f i) := by
  classical
  induction s using Finset.induction_on with
  | empty => exact IsReal.zero
  | insert a s ha ih => rw [Finset.sum_insert ha]; exact (h a).add ih

/-- The largest of the values `s`, starting from `-∞`. -/
def top {n : ℕ} (s : Fin n → EReal) : EReal := Finset.univ.fold max ⊥ s

/-- The exponential of a score, taken relative to the row's largest. -/
def ex {n : ℕ} (s : Fin n → EReal) (j : Fin n) : EReal := Ideal.exp (s j - top s)

/-- The softmax of the scores `s`, at `j`. -/
def soft {n : ℕ} (s : Fin n → EReal) (j : Fin n) : EReal := Ideal.div (ex s j) (∑ i, ex s i)

/-- One element of differential attention: two softmaxes, the second scaled by `lam`, against a column of values. -/
def diffAttn {n : ℕ} (lam : EReal) (s0 s1 v : Fin n → EReal) : EReal :=
  ∑ j, (soft s0 j - lam * soft s1 j) * v j

/-- The scalar that weighs the second softmax, from the four vectors of 64. -/
def lamOf (a b c d : (⟨1, ![64]⟩ : Shape).Idx → EReal) : EReal :=
  Ideal.exp (∑ k : Fin 64, a (ix1 k) * b (ix1 k)) - Ideal.exp (∑ k : Fin 64, c (ix1 k) * d (ix1 k))
    + Ideal.ofBits .f32 0x3EB60549#32

/-- The RMS norm of a head's 128 lanes, times a gain and a constant. -/
def headNorm (o g : Fin 128 → EReal) (l : Fin 128) : EReal :=
  o l * Ideal.rsqrt (Ideal.div (∑ d, o d * o d) (Ideal.ofBits .f32 0x43000000#32) + Ideal.ofBits .f32 0x358637BD#32)
    * g l * Ideal.ofBits .f32 0x3F24FD5C#32

theorem diffAttn_congr {n : ℕ} {lam lam' : EReal} {s0 s1 v s0' s1' v' : Fin n → EReal} (hl : lam = lam')
    (h0 : ∀ j, s0 j = s0' j) (h1 : ∀ j, s1 j = s1' j) (hv : ∀ j, v j = v' j) :
    diffAttn lam s0 s1 v = diffAttn lam' s0' s1' v' := by
  rw [hl, funext h0, funext h1, funext hv]

theorem headNorm_congr {o g o' g' : Fin 128 → EReal} {l l' : Fin 128} (ho : ∀ d, o d = o' d) (hg : ∀ d, g d = g' d)
    (hl : l = l') : headNorm o g l = headNorm o' g' l' := by
  rw [funext ho, funext hg, hl]

/-- The projected rows: 8 sequences of 4352 rows, the queries in lanes 0 to 1023, the keys in the next 1024 and the
    values in the last 1024. -/
abbrev Rows : Type := (⟨3, ![8, 4352, 3072]⟩ : Shape).Idx → EReal

/-- The score of row `s` against row `j` in sequence `b`, head `h`, map `p`: a dot product over 64 lanes. -/
def score (X : Rows) (b h : Fin 8) (p : Fin 2) (s j : Fin 4352) : EReal :=
  ∑ k : Fin 64, X (ix3 b s ⟨h.val * 128 + p.val * 64 + k.val, by omega⟩)
    * X (ix3 b j ⟨1024 + (h.val * 128 + p.val * 64 + k.val), by omega⟩)

/-- The attention output of row `s`, head `h`, lane `d`, over the first `n` rows as keys. -/
def headOut (n : ℕ) (hn : n ≤ 4352) (X : Rows) (lam : EReal) (b : Fin 8) (s : Fin 4352) (h : Fin 8) (d : Fin 128) : EReal :=
  diffAttn lam (fun j : Fin n => score X b h 0 s ⟨j.val, by omega⟩) (fun j : Fin n => score X b h 1 s ⟨j.val, by omega⟩)
    (fun j : Fin n => X (ix3 b ⟨j.val, by omega⟩ ⟨2048 + (h.val * 128 + d.val), by omega⟩))

/-- The result at an element: a context row attends to the 256 context rows, a later row to all of them. -/
def result (X : Rows) (lam : EReal) (g : Fin 128 → EReal) (b : Fin 8) (s : Fin 4352) (h : Fin 8) (l : Fin 128) : EReal :=
  if s.val < 256 then headNorm (headOut 256 (by omega) X lam b s h) g l
  else headNorm (headOut 4352 (by omega) X lam b s h) g l

theorem bits_bot : Ideal.ofBits .f32 0xFF800000#32 = ⊥ := by simp [Ideal.ofBits, Ideal.ieee, -EReal.coe_mul]

theorem max_bits_bot (x : EReal) : max (Ideal.ofBits .f32 0xFF800000#32) x = x := by
  rw [bits_bot]
  exact max_eq_right bot_le

theorem top_real {n : ℕ} {s : Fin n → EReal} (i : Fin n) (h : ∀ j, IsReal (s j)) : IsReal (top s) :=
  .of_ne ((Finset.lt_fold_max _).2 (.inr ⟨i, Finset.mem_univ i, (h i).bot_lt⟩))
    ((Finset.fold_max_lt _).2 ⟨bot_lt_top, fun j _ => (h j).lt_top⟩)

theorem ex_pos {n : ℕ} {s : Fin n → EReal} (h : ∀ j, IsReal (s j)) (j : Fin n) : 0 < ex s j := by
  obtain ⟨a, ha⟩ := h j
  obtain ⟨b, hb⟩ := top_real j h
  rw [ex, ha, hb, ← EReal.coe_sub]
  show 0 < ((Real.exp (a - b) : ℝ) : EReal)
  exact EReal.coe_pos.2 (Real.exp_pos _)

theorem sum_ex_ne {n : ℕ} {s : Fin n → EReal} (i : Fin n) (h : ∀ j, IsReal (s j)) : ∑ j, ex s j ≠ 0 := by
  have h1 : ex s i ≤ ∑ j, ex s j := Finset.single_le_sum (fun j _ => (ex_pos h j).le) (Finset.mem_univ i)
  exact ((ex_pos h i).trans_le h1).ne'

theorem div_eq_mul {x y : EReal} (h : y ≠ 0) : Ideal.div x y = x * y⁻¹ := if_neg h

/-- The weight as products with the two reciprocals is the difference of the softmaxes. -/
theorem weight_eq {n : ℕ} (lam : EReal) {s0 s1 : Fin n → EReal} (h0 : ∀ j, IsReal (s0 j)) (h1 : ∀ j, IsReal (s1 j))
    (j : Fin n) :
    ex s0 j * Ideal.div 1 (∑ i, ex s0 i) - ex s1 j * Ideal.div lam (∑ i, ex s1 i) = soft s0 j - lam * soft s1 j := by
  rw [soft, soft, div_eq_mul (sum_ex_ne j h0), div_eq_mul (sum_ex_ne j h0), div_eq_mul (sum_ex_ne j h1),
    div_eq_mul (sum_ex_ne j h1), one_mul, mul_left_comm lam]

/-- A dot product over 128 lanes whose upper half is masked is the dot product over the lower 64. -/
theorem sum_lower (f : Fin 128 → EReal) :
    (∑ k : Fin 128, if k.val < 64 then f k else 0) = ∑ k : Fin 64, f ⟨k.val, by omega⟩ := by
  rw [show (∑ k : Fin 128, if k.val < 64 then f k else 0)
      = ∑ k : Fin (64 + 64), (if k.val < 64 then f k else 0) from rfl, Fin.sum_univ_add]
  simp
  rfl

/-- A dot product over 128 lanes whose lower half is masked is the dot product over the upper 64. -/
theorem sum_upper (f : Fin 128 → EReal) :
    (∑ k : Fin 128, if k.val < 64 then 0 else f k) = ∑ k : Fin 64, f ⟨64 + k.val, by omega⟩ := by
  rw [show (∑ k : Fin 128, if k.val < 64 then 0 else f k)
      = ∑ k : Fin (64 + 64), (if k.val < 64 then 0 else f k) from rfl, Fin.sum_univ_add]
  simp
  rfl

end Cert.Attn

end
-- ==== Proof.Point.lean ====
/- What the body of the attention kernel computes at an element, from the loaded blocks, for the 256 keys of a
   context block and for all 4352 keys. -/
module

public import proofs.«01_k».proof.Proof.Softmax
public import proofs.«01_k».proof.Proof.Gen.KernelIdeal.Skeleton

@[expose] public section

set_option maxRecDepth 16384

noncomputable section

open Idealize.ShloMosaic Idealize.ShloMosaic.TcCoe Idealize.SL.Sem

namespace Cert.Attn

theorem select_lt (x : Fin 128) (a b : EReal) :
    Scalar.select (IntOp.cmpi .slt (BitVec.ofNat 32 x.val) 64#32) a b = if x.val < 64 then a else b := by
  have h : ∀ x : Fin 128, IntOp.cmpi .slt (BitVec.ofNat 32 x.val) 64#32 = if x.val < 64 then 1#1 else 0#1 := by
    decide +kernel
  rw [h]
  split <;> rfl

end Cert.Attn

namespace Cert.KernelIdeal.Point

open Cert.KernelIdeal Cert.KernelIdeal.Gen Cert.Attn

/-- Row `r` of the query block against key `j`, over the first 64 lanes. -/
def lo {n : ℕ} (Q : FVec Ideal S1x256x128 .bf16) (K : FVec Ideal ⟨3, ![1, n, 128]⟩ .bf16) (r : Fin 256) (j : Fin n) : EReal :=
  ∑ k : Fin 64, Q (ix3 0 r ⟨k.val, by omega⟩) * K (ix3 0 j ⟨k.val, by omega⟩)

/-- Row `r` of the query block against key `j`, over the last 64 lanes. -/
def hi {n : ℕ} (Q : FVec Ideal S1x256x128 .bf16) (K : FVec Ideal ⟨3, ![1, n, 128]⟩ .bf16) (r : Fin 256) (j : Fin n) : EReal :=
  ∑ k : Fin 64, Q (ix3 0 r ⟨64 + k.val, by omega⟩) * K (ix3 0 j ⟨64 + k.val, by omega⟩)

theorem lo_real {n : ℕ} {Q : FVec Ideal S1x256x128 .bf16} {K : FVec Ideal ⟨3, ![1, n, 128]⟩ .bf16}
    (hQ : ∀ i, IsReal (Q i)) (hK : ∀ i, IsReal (K i)) (r : Fin 256) (j : Fin n) : IsReal (lo Q K r j) :=
  .sum _ fun _ => (hQ _).mul (hK _)

theorem hi_real {n : ℕ} {Q : FVec Ideal S1x256x128 .bf16} {K : FVec Ideal ⟨3, ![1, n, 128]⟩ .bf16}
    (hQ : ∀ i, IsReal (Q i)) (hK : ∀ i, IsReal (K i)) (r : Fin 256) (j : Fin n) : IsReal (hi Q K r j) :=
  .sum _ fun _ => (hQ _).mul (hK _)

theorem sum_lo {n : ℕ} (Q : FVec Ideal S1x256x128 .bf16) (K : FVec Ideal ⟨3, ![1, n, 128]⟩ .bf16) (r : Fin 256) (j : Fin n) :
    (∑ k : Fin 128, Scalar.select (IntOp.cmpi .slt (BitVec.ofNat 32 k.val) 64#32) (Q (ix3 0 r k) * K (ix3 0 j k)) 0) = lo Q K r j := by
  simp only [select_lt]
  exact sum_lower fun k => Q (ix3 0 r k) * K (ix3 0 j k)

theorem sum_hi {n : ℕ} (Q : FVec Ideal S1x256x128 .bf16) (K : FVec Ideal ⟨3, ![1, n, 128]⟩ .bf16) (r : Fin 256) (j : Fin n) :
    (∑ k : Fin 128, Scalar.select (IntOp.cmpi .slt (BitVec.ofNat 32 k.val) 64#32) 0 (Q (ix3 0 r k) * K (ix3 0 j k))) = hi Q K r j := by
  simp only [select_lt]
  exact sum_upper fun k => Q (ix3 0 r k) * K (ix3 0 j k)

/-- The attention output with all the keys. -/
theorem pay6_at (lam : EReal) (Q : FVec Ideal S1x256x128 .bf16) (K V : FVec Ideal S1x4352x128 .bf16)
    (hQ : ∀ i, IsReal (Q i)) (hK : ∀ i, IsReal (K i)) (r : Fin 256) (l : Fin 128) :
    k0_pay6 (F := Ideal) lam k0_pay1 Q K V (ix2 r l)
      = diffAttn lam (lo Q K r) (hi Q K r) fun j => V (ix3 0 j l) := by
  pointwise [k0_pay6, k0_pay1]
  simp only [sum_lo, sum_hi, bits_bot]
  exact Finset.sum_congr rfl fun j _ => congrArg (· * _) (weight_eq lam (lo_real hQ hK r) (hi_real hQ hK r) j)

/-- The attention output with the context's keys. -/
theorem pay4_at (lam : EReal) (Q : FVec Ideal S1x256x128 .bf16) (K V : FVec Ideal S1x256x128 .bf16)
    (hQ : ∀ i, IsReal (Q i)) (hK : ∀ i, IsReal (K i)) (r : Fin 256) (l : Fin 128) :
    k0_pay4 (F := Ideal) lam k0_pay1 Q K V (ix2 r l)
      = diffAttn lam (lo Q K r) (hi Q K r) fun j => V (ix3 0 j l) := by
  pointwise [k0_pay4, k0_pay1]
  simp only [sum_lo, sum_hi, bits_bot]
  exact Finset.sum_congr rfl fun j _ => congrArg (· * _) (weight_eq lam (lo_real hQ hK r) (hi_real hQ hK r) j)

/-- The stored block, with all the keys. -/
theorem store6_at (lam : EReal) (Q : FVec Ideal S1x256x128 .bf16) (K V : FVec Ideal S1x4352x128 .bf16)
    (G : FVec Ideal S1x128 .f32)
    (hQ : ∀ i, IsReal (Q i)) (hK : ∀ i, IsReal (K i)) (r : Fin 256) (l : Fin 128) :
    k0_pay3 (F := Ideal) (k0_pay6 lam k0_pay1 Q K V) (k0_pay7 lam k0_pay1 Q K V) G (ix3 0 r l)
      = headNorm (fun d => diffAttn lam (lo Q K r) (hi Q K r) fun j => V (ix3 0 j d)) (fun d => G (ix2 0 d)) l := by
  pointwise [k0_pay3, k0_pay7]
  simp only [pay6_at lam Q K V hQ hK]
  rfl

/-- The stored block, with the context's keys. -/
theorem store4_at (lam : EReal) (Q : FVec Ideal S1x256x128 .bf16) (K V : FVec Ideal S1x256x128 .bf16)
    (G : FVec Ideal S1x128 .f32)
    (hQ : ∀ i, IsReal (Q i)) (hK : ∀ i, IsReal (K i)) (r : Fin 256) (l : Fin 128) :
    k0_pay2 (F := Ideal) (k0_pay4 lam k0_pay1 Q K V) (k0_pay5 lam k0_pay1 Q K V) G (ix3 0 r l)
      = headNorm (fun d => diffAttn lam (lo Q K r) (hi Q K r) fun j => V (ix3 0 j d)) (fun d => G (ix2 0 d)) l := by
  pointwise [k0_pay2, k0_pay5]
  simp only [pay4_at lam Q K V hQ hK]
  rfl

end Cert.KernelIdeal.Point

end
-- ==== Proof.Blocks.lean ====
/- The attention kernel's result array: every grid point writes one block of 256 rows and one head, and the block's
   elements are the attention outputs of those rows. -/
module

public import proofs.«01_k».proof.Proof.Point
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Point

open Cert.KernelIdeal Cert.KernelIdeal.Gen Cert.Attn

variable (m : (ℓ : Loc nD τ sig) → Buf (Elt Ideal) ℓ)

/-- Where each window's block lies at each grid point. -/
theorem idx : ∀ t : Fin cfg0.N, win0_0.index t = ![0] ∧ win0_1.index t = ![t.val / 136, t.val % 17, t.val / 17 % 8]
    ∧ win0_2.index t = ![t.val / 136, 0, 8 + t.val / 17 % 8] ∧ win0_3.index t = ![t.val / 136, 0, 16 + t.val / 17 % 8]
    ∧ win0_4.index t = ![0, 0] ∧ win0_5.index t = ![t.val / 136, t.val % 17, t.val / 17 % 8] :=
  (by decide +kernel : ∀ t : Fin grid0.N, _)

theorem lam_read (c : Dev nD) (i : S1.Idx) : (show FVec Ideal S1 .f32 from V m c main_v8) i
    = lamOf (m ((c : Thread nD τ).loc main_arg1)) (m ((c : Thread nD τ).loc main_arg2))
        (m ((c : Thread nD τ).loc main_arg3)) (m ((c : Thread nD τ).loc main_arg4)) := by
  entry_read
  pointwise [lamOf]

theorem gain_read (c : Dev nD) (l : Fin 128) : (show FVec Ideal S1x128 .f32 from V m c main_v9) (ix2 0 l)
    = (show FVec Ideal S128 .f32 from m ((c : Thread nD τ).loc main_arg5)) (ix1 l) := by
  entry_read
  pointwise

variable (hfin : ∀ (c : Dev nD) (i : S8x4352x3072.Idx), (i 2).val < 2048 →
  IsReal ((show FVec Ideal S8x4352x3072 .bf16 from m ((c : Thread nD τ).loc main_arg0)) i))

theorem N_lt (t : Fin cfg0.N) : t.val < 1088 := lt_of_lt_of_eq t.isLt (by decide +kernel : cfg0.N = 1088)

include hfin in
theorem q_real (c : Dev nD) (t : Fin cfg0.N) (i : S1x256x128.Idx) :
    IsReal ((show FVec Ideal S1x256x128 .bf16 from iblk m c 1 t) i) := by
  have ht := N_lt t
  have h2 := (i 2).isLt
  blk_simp [iblk, V]
  refine hfin c _ ?_
  blk_simp [idx t]
  change (i 2).val < 128 at h2
  omega

include hfin in
theorem k_real (c : Dev nD) (t : Fin cfg0.N) (i : S1x4352x128.Idx) :
    IsReal ((show FVec Ideal S1x4352x128 .bf16 from iblk m c 2 t) i) := by
  have ht := N_lt t
  have h2 := (i 2).isLt
  blk_simp [iblk, V]
  refine hfin c _ ?_
  blk_simp [idx t]
  change (i 2).val < 128 at h2
  omega

include hfin in
theorem point_all (c : Dev nD) (t : Fin cfg0.N) (h : ¬t.val % 17 = 0) (lam : EReal) (r : Fin 256) (l : Fin 128) :
    k0_pay3 (F := Ideal) (k0_pay6 lam k0_pay1 (iblk m c 1 t) (iblk m c 2 t) (iblk m c 3 t))
        (k0_pay7 lam k0_pay1 (iblk m c 1 t) (iblk m c 2 t) (iblk m c 3 t)) (iblk m c 4 t) (ix3 0 r l)
      = result (show FVec Ideal S8x4352x3072 .bf16 from m ((c : Thread nD τ).loc main_arg0)) lam
          (fun d => (show FVec Ideal S128 .f32 from m ((c : Thread nD τ).loc main_arg5)) (ix1 d))
          ⟨t.val / 136, by have := N_lt t; omega⟩ ⟨t.val % 17 * 256 + r.val, by omega⟩ ⟨t.val / 17 % 8, by omega⟩ l := by
  have ht := N_lt t
  refine (store6_at lam _ _ _ _ (q_real m hfin c t) (k_real m hfin c t) r l).trans ?_
  rw [result, if_neg (by dsimp only; omega)]
  refine headNorm_congr (fun d => diffAttn_congr rfl (fun j => Finset.sum_congr rfl fun k _ => congrArg₂ (· * ·) ?_ ?_)
    (fun j => Finset.sum_congr rfl fun k _ => congrArg₂ (· * ·) ?_ ?_) fun j => ?_) (fun d => ?_) rfl
  · blk_ext [iblk, V, idx t]
  · blk_ext [iblk, V, idx t]
  · blk_ext [iblk, V, idx t]
  · blk_ext [iblk, V, idx t]
  · blk_ext [iblk, V, idx t]
  · refine Eq.trans ?_ (gain_read m c d)
    blk_ext [iblk, idx t]

include hfin in
theorem point_ctx (c : Dev nD) (t : Fin cfg0.N) (h : t.val % 17 = 0) (lam : EReal)
    (K V' : FVec Ideal S1x256x128 .bf16)
    (hK : ∀ (j : Fin 256) (k : Fin 128), K (ix3 0 j k) = (show FVec Ideal S1x4352x128 .bf16 from iblk m c 2 t) (ix3 0 ⟨j.val, by omega⟩ k))
    (hV : ∀ (j : Fin 256) (k : Fin 128), V' (ix3 0 j k) = (show FVec Ideal S1x4352x128 .bf16 from iblk m c 3 t) (ix3 0 ⟨j.val, by omega⟩ k))
    (r : Fin 256) (l : Fin 128) :
    k0_pay2 (F := Ideal) (k0_pay4 lam k0_pay1 (iblk m c 1 t) K V') (k0_pay5 lam k0_pay1 (iblk m c 1 t) K V') (iblk m c 4 t) (ix3 0 r l)
      = result (show FVec Ideal S8x4352x3072 .bf16 from m ((c : Thread nD τ).loc main_arg0)) lam
          (fun d => (show FVec Ideal S128 .f32 from m ((c : Thread nD τ).loc main_arg5)) (ix1 d))
          ⟨t.val / 136, by have := N_lt t; omega⟩ ⟨t.val % 17 * 256 + r.val, by omega⟩ ⟨t.val / 17 % 8, by omega⟩ l := by
  have ht := N_lt t
  refine (store4_at lam _ K V' _ (q_real m hfin c t) (fun i => ?_) r l).trans ?_
  · have hi : i = ix3 0 (i 1) (i 2) := by
      refine (eq_ix3 i).trans ?_
      rw [show i 0 = (0 : Fin 1) from Subsingleton.elim (α := Fin 1) _ _]
      rfl
    rw [hi]
    exact (hK _ _).symm ▸ k_real m hfin c t _
  rw [result, if_pos (by dsimp only; omega)]
  refine headNorm_congr (fun d => diffAttn_congr rfl (fun j => Finset.sum_congr rfl fun k _ => congrArg₂ (· * ·) ?_ ((hK _ _).trans ?_))
    (fun j => Finset.sum_congr rfl fun k _ => congrArg₂ (· * ·) ?_ ((hK _ _).trans ?_)) fun j => (hV _ _).trans ?_) (fun d => ?_) rfl
  · blk_ext [iblk, V, idx t]
  · blk_ext [iblk, V, idx t]
  · blk_ext [iblk, V, idx t]
  · blk_ext [iblk, V, idx t]
  · blk_ext [iblk, V, idx t]
  · refine Eq.trans ?_ (gain_read m c d)
    blk_ext [iblk, idx t]

/-- The result array's element at an index. -/
def resultAt (c : Dev nD) (i : S8x4352x1024.Idx) : EReal :=
  result (show FVec Ideal S8x4352x3072 .bf16 from m ((c : Thread nD τ).loc main_arg0))
    (lamOf (m ((c : Thread nD τ).loc main_arg1)) (m ((c : Thread nD τ).loc main_arg2))
        (m ((c : Thread nD τ).loc main_arg3)) (m ((c : Thread nD τ).loc main_arg4)))
    (fun d => (show FVec Ideal S128 .f32 from m ((c : Thread nD τ).loc main_arg5)) (ix1 d))
    (i 0) (i 1) ⟨(i 2).val / 128, by have := (i 2).isLt; change (i 2).val < 1024 at this; omega⟩
    ⟨(i 2).val % 128, by omega⟩

theorem resultAt_of (c : Dev nD) (i : S8x4352x1024.Idx) (b : Fin 8) (s : Fin 4352) (h : Fin 8) (l : Fin 128) (lam : EReal)
    (hlam : lam = lamOf (m ((c : Thread nD τ).loc main_arg1)) (m ((c : Thread nD τ).loc main_arg2))
        (m ((c : Thread nD τ).loc main_arg3)) (m ((c : Thread nD τ).loc main_arg4)))
    (h0 : (i 0 : ℕ) = b) (h1 : (i 1 : ℕ) = s) (h2 : (i 2 : ℕ) = h * 128 + l) :
    result (show FVec Ideal S8x4352x3072 .bf16 from m ((c : Thread nD τ).loc main_arg0)) lam
      (fun d => (show FVec Ideal S128 .f32 from m ((c : Thread nD τ).loc main_arg5)) (ix1 d)) b s h l = resultAt m c i := by
  rw [resultAt, hlam]
  have e0 : b = i 0 := Fin.ext h0.symm
  have e1 : s = i 1 := Fin.ext h1.symm
  subst e0 e1
  congr 1
  · exact Fin.ext (by dsimp only; omega)
  · exact Fin.ext (by dsimp only; omega)

include hfin in
/-- The result array after the run. -/
theorem final (c : Dev nD) : (dats m 0 c).arrAt 5 (cfgs 0).N = resultAt m c := by
  refine (dats m 0 c).arrAt_eq_of_covers 5 _ (by decide +kernel) fun t hf y => ?_
  blk_simp
  rw [after0_5]
  have ht := N_lt t
  have hy : (y : S1x256x128.Idx) = ix3 0 (y 1) (y 2) := by
    refine (eq_ix3 (y : S1x256x128.Idx)).trans ?_
    rw [show y 0 = (0 : Fin 1) from Subsingleton.elim (α := Fin 1) _ _]
    rfl
  by_cases h : t.val % 17 = 0
  · rw [outsAt0_A m c t h (by omega)]
    frame_out
    refine (congrArg _ hy).trans ((point_ctx m hfin c t h _ _ _ ?_ ?_ (y 1) (y 2)).trans (resultAt_of m c _ _ _ _ _ _ ?_ ?_ ?_ ?_))
    · intro j k; pointwise
    · intro j k; pointwise
    · exact lam_read m c _
    · blk_simp [idx t]
    · blk_simp [idx t]
    · blk_simp [idx t]
  · rw [outsAt0_B m c t h (by omega)]
    frame_out
    refine (congrArg _ hy).trans ((point_all m hfin c t h _ (y 1) (y 2)).trans (resultAt_of m c _ _ _ _ _ _ ?_ ?_ ?_ ?_))
    · exact lam_read m c _
    · blk_simp [idx t]
    · blk_simp [idx t]
    · blk_simp [idx t]

end Cert.KernelIdeal.Point

end
-- ==== Proof.Reference.lean ====
/- The reference's result at an element: its operations read one stage at a time, the scores, the softmax weights, the
   weighted values and the normalised heads. -/
module

public import proofs.«01_k».proof.Proof.Softmax
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Attn

theorem v21_at (X : FVec Ideal S8x4352x3072 .bf16) (b h : Fin 8) (p : Fin 2) (s j : Fin 256) :
    val_main_v21 (F := Ideal) X (ix5 b h p s j) = score X b h p ⟨s.val, by omega⟩ ⟨j.val, by omega⟩ := by
  pointwise [val_main_v21, val_main_v18, val_main_v11, val_main_v10, val_main_v9, val_main_v19, val_main_v14, val_main_v13, val_main_v12, val_main_v8]
  refine Finset.sum_congr rfl fun k _ => congrArg₂ (· * ·) ?_ ?_ <;> blk_ext

theorem v59_at (X : FVec Ideal S8x4352x3072 .bf16) (b h : Fin 8) (p : Fin 2) (s : Fin 4096) (j : Fin 4352) :
    val_main_v59 (F := Ideal) X (ix5 b h p s j) = score X b h p ⟨256 + s.val, by omega⟩ j := by
  pointwise [val_main_v59, val_main_v58, val_main_v11, val_main_v10, val_main_v9, val_main_v14, val_main_v13, val_main_v12, val_main_v8]
  refine Finset.sum_congr rfl fun k _ => congrArg₂ (· * ·) ?_ ?_ <;> blk_ext

theorem v7_at (a b c d : FVec Ideal S64 .f32) (i : S_.Idx) : val_main_v7 (F := Ideal) a b c d i = lamOf a b c d := by
  pointwise [val_main_v7, val_main_cst_1, val_main_v6, val_main_v5, val_main_v4, val_main_v3, val_main_cst_0, val_main_v2,
    val_main_v1, val_main_v0, val_main_cst]
  rfl

theorem v22_at (X : FVec Ideal S8x4352x3072 .bf16) (b h : Fin 8) (p : Fin 2) (s : Fin 256) :
    val_main_v22 (F := Ideal) X (ix4 b h p s) = top (fun j : Fin 256 => score X b h p ⟨s.val, by omega⟩ ⟨j.val, by omega⟩) := by
  pointwise [val_main_v22, val_main_cst_2]
  simp only [v21_at]
  rw [bits_bot]
  rfl

theorem v26_at (X : FVec Ideal S8x4352x3072 .bf16) (b h : Fin 8) (p : Fin 2) (s : Fin 256) (j : Fin 256) :
    val_main_v26 (F := Ideal) X (ix5 b h p s j) = top (fun j : Fin 256 => score X b h p ⟨s.val, by omega⟩ ⟨j.val, by omega⟩) := by
  pointwise [val_main_v26, val_main_v25]
  rw [val_main_v24_apply, v22_at]
  exact max_bits_bot _

theorem v28_at (X : FVec Ideal S8x4352x3072 .bf16) (b h : Fin 8) (p : Fin 2) (s : Fin 256) (j : Fin 256) :
    val_main_v28 (F := Ideal) X (ix5 b h p s j) = ex (fun j : Fin 256 => score X b h p ⟨s.val, by omega⟩ ⟨j.val, by omega⟩) j := by
  pointwise [val_main_v28, val_main_v27]
  rw [v21_at, v26_at]
  rfl

theorem v31_at (X : FVec Ideal S8x4352x3072 .bf16) (b h : Fin 8) (p : Fin 2) (s : Fin 256) (j : Fin 256) :
    val_main_v31 (F := Ideal) X (ix5 b h p s j) = ∑ j, ex (fun j : Fin 256 => score X b h p ⟨s.val, by omega⟩ ⟨j.val, by omega⟩) j := by
  pointwise [val_main_v31, val_main_v30, val_main_v29, val_main_cst_4]
  simp only [v28_at]

theorem v32_at (X : FVec Ideal S8x4352x3072 .bf16) (b h : Fin 8) (p : Fin 2) (s : Fin 256) (j : Fin 256) :
    val_main_v32 (F := Ideal) X (ix5 b h p s j) = soft (fun j : Fin 256 => score X b h p ⟨s.val, by omega⟩ ⟨j.val, by omega⟩) j := by
  pointwise [val_main_v32]
  rw [v28_at, v31_at]
  rfl

theorem v39_at (X : FVec Ideal S8x4352x3072 .bf16) (x1 x2 x3 x4 : FVec Ideal S64 .f32) (b h : Fin 8) (s : Fin 256) (j : Fin 256) :
    val_main_v39 (F := Ideal) X x1 x2 x3 x4 (ix4 b h s j) = soft (fun j : Fin 256 => score X b h 0 ⟨s.val, by omega⟩ ⟨j.val, by omega⟩) j
      - lamOf x1 x2 x3 x4 * soft (fun j : Fin 256 => score X b h 1 ⟨s.val, by omega⟩ ⟨j.val, by omega⟩) j := by
  rw [val_main_v39_apply, val_main_v38_apply, val_main_v37_apply, v7_at]
  pointwise [val_main_v36, val_main_v35, val_main_v34, val_main_v33]
  refine congrArg₂ (· - ·) ((congrArg _ ?_).trans (v32_at X b h 0 s j))
    (congrArg₂ (· * ·) rfl ((congrArg _ ?_).trans (v32_at X b h 1 s j))) <;> blk_ext

theorem v40_at (X : FVec Ideal S8x4352x3072 .bf16) (x1 x2 x3 x4 : FVec Ideal S64 .f32) (b h : Fin 8) (s : Fin 256) (d : Fin 128) :
    val_main_v40 (F := Ideal) X x1 x2 x3 x4 (ix4 b h s d) = headOut 256 (by omega) X (lamOf x1 x2 x3 x4) b ⟨s.val, by omega⟩ h d := by
  pointwise [val_main_v40, val_main_v20, val_main_v17, val_main_v16, val_main_v15, val_main_v8]
  simp only [v39_at]
  rw [headOut, diffAttn]

theorem v55_at (i : S8x256x8x128.Idx) : val_main_v55 (F := Ideal) i = Ideal.ofBits .f32 0x3F24FD5C#32 := by
  rw [val_main_v55_apply, val_main_cst_8_apply]
  rfl

theorem v47_at (i : S8x256x8x1.Idx) : val_main_v47 (F := Ideal) i = Ideal.ofBits .f32 0x358637BD#32 := by
  rw [val_main_v47_apply, val_main_cst_7_apply]
  rfl

theorem v45_at (i : S8x256x8x1.Idx) : val_main_v45 (F := Ideal) i = Ideal.ofBits .f32 0x43000000#32 := by
  rw [val_main_v45_apply, val_main_cst_6_apply]
  rfl

theorem v41_at (X : FVec Ideal S8x4352x3072 .bf16) (x1 x2 x3 x4 : FVec Ideal S64 .f32) (b h : Fin 8) (s : Fin 256) (d : Fin 128) :
    val_main_v41 (F := Ideal) X x1 x2 x3 x4 (ix4 b s h d) = headOut 256 (by omega) X (lamOf x1 x2 x3 x4) b ⟨s.val, by omega⟩ h d := by
  pointwise [val_main_v41]
  exact v40_at X x1 x2 x3 x4 b h s d

theorem v43_at (X : FVec Ideal S8x4352x3072 .bf16) (x1 x2 x3 x4 : FVec Ideal S64 .f32) (b h : Fin 8) (s : Fin 256) :
    val_main_v43 (F := Ideal) X x1 x2 x3 x4 (ix3 b s h) = ∑ d, headOut 256 (by omega) X (lamOf x1 x2 x3 x4) b ⟨s.val, by omega⟩ h d
      * headOut 256 (by omega) X (lamOf x1 x2 x3 x4) b ⟨s.val, by omega⟩ h d := by
  rw [val_main_v43_apply, val_main_cst_5_apply]
  refine (congrArg₂ (· + ·) (Ideal.ofBits_zero .f32) (Finset.sum_congr rfl fun d _ => ?_)).trans (zero_add _)
  have hi : idx_main_v43 (ix3 b s h) d = ix4 b s h d := funext fun a => match a with
    | ⟨0, _⟩ => rfl | ⟨1, _⟩ => rfl | ⟨2, _⟩ => rfl | ⟨3, _⟩ => rfl
  rw [hi, val_main_v42_apply, v41_at]
  rfl

theorem v50_at (X : FVec Ideal S8x4352x3072 .bf16) (x1 x2 x3 x4 : FVec Ideal S64 .f32) (b h : Fin 8) (s : Fin 256) (d : Fin 128) :
    val_main_v50 (F := Ideal) X x1 x2 x3 x4 (ix4 b s h d)
      = Ideal.rsqrt (Ideal.div (∑ d, headOut 256 (by omega) X (lamOf x1 x2 x3 x4) b ⟨s.val, by omega⟩ h d
          * headOut 256 (by omega) X (lamOf x1 x2 x3 x4) b ⟨s.val, by omega⟩ h d) (Ideal.ofBits .f32 0x43000000#32)
        + Ideal.ofBits .f32 0x358637BD#32) := by
  pointwise [val_main_v50]
  rw [val_main_v49_apply, val_main_v48_apply, val_main_v46_apply, v47_at, v45_at]
  pointwise [val_main_v44]
  rw [v43_at]

theorem v53_at (x5 : FVec Ideal S128 .f32) (b h : Fin 8) (s : Fin 256) (d : Fin 128) :
    val_main_v53 (F := Ideal) x5 (ix4 b s h d) = x5 (ix1 d) := by
  pointwise [val_main_v53, val_main_v52]

theorem v56_at (X : FVec Ideal S8x4352x3072 .bf16) (x1 x2 x3 x4 : FVec Ideal S64 .f32) (x5 : FVec Ideal S128 .f32)
    (b h : Fin 8) (s : Fin 256) (d : Fin 128) :
    val_main_v56 (F := Ideal) X x1 x2 x3 x4 x5 (ix4 b s h d)
      = headNorm (headOut 256 (by omega) X (lamOf x1 x2 x3 x4) b ⟨s.val, by omega⟩ h) (fun d => x5 (ix1 d)) d := by
  rw [val_main_v56_apply, val_main_v54_apply, val_main_v51_apply, v41_at, v50_at, v53_at, v55_at]
  rfl

theorem v60_at (X : FVec Ideal S8x4352x3072 .bf16) (b h : Fin 8) (p : Fin 2) (s : Fin 4096) :
    val_main_v60 (F := Ideal) X (ix4 b h p s) = top (fun j : Fin 4352 => score X b h p ⟨256 + s.val, by omega⟩ j) := by
  pointwise [val_main_v60, val_main_cst_9]
  simp only [v59_at]
  rw [bits_bot]
  rfl

theorem v64_at (X : FVec Ideal S8x4352x3072 .bf16) (b h : Fin 8) (p : Fin 2) (s : Fin 4096) (j : Fin 4352) :
    val_main_v64 (F := Ideal) X (ix5 b h p s j) = top (fun j : Fin 4352 => score X b h p ⟨256 + s.val, by omega⟩ j) := by
  pointwise [val_main_v64, val_main_v63]
  rw [val_main_v62_apply, v60_at]
  exact max_bits_bot _

theorem v66_at (X : FVec Ideal S8x4352x3072 .bf16) (b h : Fin 8) (p : Fin 2) (s : Fin 4096) (j : Fin 4352) :
    val_main_v66 (F := Ideal) X (ix5 b h p s j) = ex (fun j : Fin 4352 => score X b h p ⟨256 + s.val, by omega⟩ j) j := by
  pointwise [val_main_v66, val_main_v65]
  rw [v59_at, v64_at]
  rfl

theorem v69_at (X : FVec Ideal S8x4352x3072 .bf16) (b h : Fin 8) (p : Fin 2) (s : Fin 4096) (j : Fin 4352) :
    val_main_v69 (F := Ideal) X (ix5 b h p s j) = ∑ j, ex (fun j : Fin 4352 => score X b h p ⟨256 + s.val, by omega⟩ j) j := by
  pointwise [val_main_v69, val_main_v68, val_main_v67, val_main_cst_11]
  simp only [v66_at]

theorem v70_at (X : FVec Ideal S8x4352x3072 .bf16) (b h : Fin 8) (p : Fin 2) (s : Fin 4096) (j : Fin 4352) :
    val_main_v70 (F := Ideal) X (ix5 b h p s j) = soft (fun j : Fin 4352 => score X b h p ⟨256 + s.val, by omega⟩ j) j := by
  pointwise [val_main_v70]
  rw [v66_at, v69_at]
  rfl

theorem v77_at (X : FVec Ideal S8x4352x3072 .bf16) (x1 x2 x3 x4 : FVec Ideal S64 .f32) (b h : Fin 8) (s : Fin 4096) (j : Fin 4352) :
    val_main_v77 (F := Ideal) X x1 x2 x3 x4 (ix4 b h s j) = soft (fun j : Fin 4352 => score X b h 0 ⟨256 + s.val, by omega⟩ j) j
      - lamOf x1 x2 x3 x4 * soft (fun j : Fin 4352 => score X b h 1 ⟨256 + s.val, by omega⟩ j) j := by
  rw [val_main_v77_apply, val_main_v76_apply, val_main_v75_apply, v7_at]
  pointwise [val_main_v74, val_main_v73, val_main_v72, val_main_v71]
  refine congrArg₂ (· - ·) ((congrArg _ ?_).trans (v70_at X b h 0 s j))
    (congrArg₂ (· * ·) rfl ((congrArg _ ?_).trans (v70_at X b h 1 s j))) <;> blk_ext

theorem v78_at (X : FVec Ideal S8x4352x3072 .bf16) (x1 x2 x3 x4 : FVec Ideal S64 .f32) (b h : Fin 8) (s : Fin 4096) (d : Fin 128) :
    val_main_v78 (F := Ideal) X x1 x2 x3 x4 (ix4 b h s d) = headOut 4352 (by omega) X (lamOf x1 x2 x3 x4) b ⟨256 + s.val, by omega⟩ h d := by
  pointwise [val_main_v78, val_main_v17, val_main_v16, val_main_v15, val_main_v8]
  simp only [v77_at]
  rw [headOut, diffAttn]

theorem v93_at (i : S8x4096x8x128.Idx) : val_main_v93 (F := Ideal) i = Ideal.ofBits .f32 0x3F24FD5C#32 := by
  rw [val_main_v93_apply, val_main_cst_15_apply]
  rfl

theorem v85_at (i : S8x4096x8x1.Idx) : val_main_v85 (F := Ideal) i = Ideal.ofBits .f32 0x358637BD#32 := by
  rw [val_main_v85_apply, val_main_cst_14_apply]
  rfl

theorem v83_at (i : S8x4096x8x1.Idx) : val_main_v83 (F := Ideal) i = Ideal.ofBits .f32 0x43000000#32 := by
  rw [val_main_v83_apply, val_main_cst_13_apply]
  rfl

theorem v79_at (X : FVec Ideal S8x4352x3072 .bf16) (x1 x2 x3 x4 : FVec Ideal S64 .f32) (b h : Fin 8) (s : Fin 4096) (d : Fin 128) :
    val_main_v79 (F := Ideal) X x1 x2 x3 x4 (ix4 b s h d) = headOut 4352 (by omega) X (lamOf x1 x2 x3 x4) b ⟨256 + s.val, by omega⟩ h d := by
  pointwise [val_main_v79]
  exact v78_at X x1 x2 x3 x4 b h s d

theorem v81_at (X : FVec Ideal S8x4352x3072 .bf16) (x1 x2 x3 x4 : FVec Ideal S64 .f32) (b h : Fin 8) (s : Fin 4096) :
    val_main_v81 (F := Ideal) X x1 x2 x3 x4 (ix3 b s h) = ∑ d, headOut 4352 (by omega) X (lamOf x1 x2 x3 x4) b ⟨256 + s.val, by omega⟩ h d
      * headOut 4352 (by omega) X (lamOf x1 x2 x3 x4) b ⟨256 + s.val, by omega⟩ h d := by
  rw [val_main_v81_apply, val_main_cst_12_apply]
  refine (congrArg₂ (· + ·) (Ideal.ofBits_zero .f32) (Finset.sum_congr rfl fun d _ => ?_)).trans (zero_add _)
  have hi : idx_main_v81 (ix3 b s h) d = ix4 b s h d := funext fun a => match a with
    | ⟨0, _⟩ => rfl | ⟨1, _⟩ => rfl | ⟨2, _⟩ => rfl | ⟨3, _⟩ => rfl
  rw [hi, val_main_v80_apply, v79_at]
  rfl

theorem v88_at (X : FVec Ideal S8x4352x3072 .bf16) (x1 x2 x3 x4 : FVec Ideal S64 .f32) (b h : Fin 8) (s : Fin 4096) (d : Fin 128) :
    val_main_v88 (F := Ideal) X x1 x2 x3 x4 (ix4 b s h d)
      = Ideal.rsqrt (Ideal.div (∑ d, headOut 4352 (by omega) X (lamOf x1 x2 x3 x4) b ⟨256 + s.val, by omega⟩ h d
          * headOut 4352 (by omega) X (lamOf x1 x2 x3 x4) b ⟨256 + s.val, by omega⟩ h d) (Ideal.ofBits .f32 0x43000000#32)
        + Ideal.ofBits .f32 0x358637BD#32) := by
  pointwise [val_main_v88]
  rw [val_main_v87_apply, val_main_v86_apply, val_main_v84_apply, v85_at, v83_at]
  pointwise [val_main_v82]
  rw [v81_at]

theorem v91_at (x5 : FVec Ideal S128 .f32) (b h : Fin 8) (s : Fin 4096) (d : Fin 128) :
    val_main_v91 (F := Ideal) x5 (ix4 b s h d) = x5 (ix1 d) := by
  pointwise [val_main_v91, val_main_v90]

theorem v94_at (X : FVec Ideal S8x4352x3072 .bf16) (x1 x2 x3 x4 : FVec Ideal S64 .f32) (x5 : FVec Ideal S128 .f32)
    (b h : Fin 8) (s : Fin 4096) (d : Fin 128) :
    val_main_v94 (F := Ideal) X x1 x2 x3 x4 x5 (ix4 b s h d)
      = headNorm (headOut 4352 (by omega) X (lamOf x1 x2 x3 x4) b ⟨256 + s.val, by omega⟩ h) (fun d => x5 (ix1 d)) d := by
  rw [val_main_v94_apply, val_main_v92_apply, val_main_v89_apply, v79_at, v88_at, v91_at, v93_at]
  rfl

theorem v57_at (X : FVec Ideal S8x4352x3072 .bf16) (x1 x2 x3 x4 : FVec Ideal S64 .f32) (x5 : FVec Ideal S128 .f32)
    (b : Fin 8) (s : Fin 256) (l : Fin 1024) :
    val_main_v57 (F := Ideal) X x1 x2 x3 x4 x5 (ix3 b s l)
      = val_main_v56 (F := Ideal) X x1 x2 x3 x4 x5 (ix4 b s ⟨l.val / 128, by omega⟩ ⟨l.val % 128, by omega⟩) := by
  pointwise [val_main_v57]

theorem v95_at (X : FVec Ideal S8x4352x3072 .bf16) (x1 x2 x3 x4 : FVec Ideal S64 .f32) (x5 : FVec Ideal S128 .f32)
    (b : Fin 8) (s : Fin 4096) (l : Fin 1024) :
    val_main_v95 (F := Ideal) X x1 x2 x3 x4 x5 (ix3 b s l)
      = val_main_v94 (F := Ideal) X x1 x2 x3 x4 x5 (ix4 b s ⟨l.val / 128, by omega⟩ ⟨l.val % 128, by omega⟩) := by
  pointwise [val_main_v95]

/-- The reference's result at an element. -/
theorem v97_at (X : FVec Ideal S8x4352x3072 .bf16) (x1 x2 x3 x4 : FVec Ideal S64 .f32) (x5 : FVec Ideal S128 .f32)
    (b : Fin 8) (s : Fin 4352) (l : Fin 1024) :
    val_main_v97 (F := Ideal) X x1 x2 x3 x4 x5 (ix3 b s l)
      = result X (lamOf x1 x2 x3 x4) (fun d => x5 (ix1 d)) b s ⟨l.val / 128, by omega⟩ ⟨l.val % 128, by omega⟩ := by
  pointwise [val_main_v97, val_main_v96]
  rw [result]
  by_cases h : s.val < 256
  · rw [if_pos h]
    simp only [dif_pos h]
    rw [v57_at, v56_at]
  · rw [if_neg h]
    simp only [dif_neg h]
    rw [v95_at, v94_at]
    have hs : (⟨256 + (s.val - 256), by omega⟩ : Fin 4352) = s := Fin.ext (by dsimp only; omega)
    simp only [hs]

end Cert.ReferenceIdeal.Read

end
-- ==== Proof.Finite.lean ====
/- What the precondition of the attention claim says of one element: a query or key is a real number. -/
module

public import proofs.«01_k».proof.Proof.Softmax
public import proofs.«01_k».proof.Proof.Gen.Pre_finite_qk

@[expose] public section

noncomputable section

open Idealize.ShloMosaic Idealize.ShloMosaic.TcCoe Idealize.SL.Sem

namespace Cert.Attn

open Cert.Pre_finite_qk Cert.Pre_finite_qk.Gen

theorem bits_top : Ideal.ofBits .f32 0x7F800000#32 = ⊤ := by simp [Ideal.ofBits, Ideal.ieee, -EReal.coe_mul]

/-- Both comparisons hold, so the element lies strictly between the infinities. -/
theorem real_of_and {x : EReal}
    (h : IntOp.andi (Ideal.cmp .ogt x (Ideal.ofBits .f32 0xFF800000#32)) (Ideal.cmp .olt x (Ideal.ofBits .f32 0x7F800000#32)) = 1#1) :
    IsReal x := by
  rw [bits_bot, bits_top] at h
  refine IsReal.of_ne ?_ ?_
  · by_contra hx
    have : Ideal.cmp .ogt x ⊥ = 0#1 := by simp [Ideal.cmp, hx]
    rw [this] at h
    revert h
    generalize Ideal.cmp .olt x ⊤ = y
    revert y
    decide
  · by_contra hx
    have : Ideal.cmp .olt x ⊤ = 0#1 := by simp [Ideal.cmp, hx]
    rw [this] at h
    revert h
    generalize Ideal.cmp .ogt x ⊥ = y
    revert y
    decide

theorem real_of_pre (X : FVec Ideal S8x4352x3072 .bf16) (x1 x2 x3 x4 : FVec Ideal S64 .f32) (x5 : FVec Ideal S128 .f32)
    (h : Cert.Pre_finite_qk.fn (F := Ideal) X x1 x2 x3 x4 x5 = fun _ => 1#1) (i : S8x4352x3072.Idx) (hi : (i 2).val < 2048) :
    IsReal (X i) := by
  have hs := extractStridedSlice_apply (t := S8x4352x2048) ![0, 0, 0] X Facts.slices_S8x4352x3072_S8x4352x2048_0_0_0
    (ix3 (i 0) (i 1) ⟨(i 2).val, hi⟩) i (fun a => match a with
      | ⟨0, _⟩ => (Nat.zero_add _).symm
      | ⟨1, _⟩ => (Nat.zero_add _).symm
      | ⟨2, _⟩ => (Nat.zero_add _).symm)
  refine real_of_and ?_
  rw [← hs]
  exact congrFun h (ix3 (i 0) (i 1) ⟨(i 2).val, hi⟩)

end Cert.Attn

end
-- ==== Proof.Rows.lean ====
/- The rows of the stream: 256 context rows before 4096 sequence rows, each with its own modulation. What the projections
   compute of a row, in the extended reals. -/
module

public import Idealize.ShloMosaic.Lib.Pipeline.ValueKit
public import Idealize.ShloMosaic.Lib.Pointwise

@[expose] public section

noncomputable section

open Idealize.ShloMosaic

namespace Cert.Rows

abbrev Seq : Type := (⟨3, ![8, 4096, 1024]⟩ : Shape).Idx → EReal
abbrev Ctx : Type := (⟨3, ![8, 256, 1024]⟩ : Shape).Idx → EReal
abbrev Vec1 : Type := (⟨1, ![1024]⟩ : Shape).Idx → EReal
abbrev ModSeq : Type := (⟨4, ![8, 6, 1, 1024]⟩ : Shape).Idx → EReal
abbrev ModCtx : Type := (⟨2, ![6, 1024]⟩ : Shape).Idx → EReal

/-- Row `s` of the joined stream. -/
def row (x : Seq) (c : Ctx) (b : Fin 8) (s : Fin 4352) (k : Fin 1024) : EReal :=
  if h : s.val < 256 then c (ix3 b ⟨s.val, h⟩ k) else x (ix3 b ⟨s.val - 256, by omega⟩ k)

/-- The `j`-th of a row's six modulation vectors: the context rows share theirs. -/
def modOf (ml : ModSeq) (mc : ModCtx) (b : Fin 8) (s : Fin 4352) (j : Fin 6) (k : Fin 1024) : EReal :=
  if s.val < 256 then mc (ix2 j k) else ml (ix4 b j 0 k)

/-- A row's RMS norm with gain `g`, scaled by `1 + sc` and shifted by `sh`. -/
def normMod (x g sh sc : Fin 1024 → EReal) (k : Fin 1024) : EReal :=
  x k * Ideal.rsqrt (Ideal.div (∑ d, x d * x d) (Ideal.ofBits .f32 0x44800000#32) + Ideal.ofBits .f32 0x358637BD#32) * g k
    * (Ideal.ofBits .f32 0x3F800000#32 + sc k) + sh k

theorem normMod_congr {x g sh sc x' g' sh' sc' : Fin 1024 → EReal} (hx : ∀ k, x k = x' k) (hg : ∀ k, g k = g' k)
    (hsh : ∀ k, sh k = sh' k) (hsc : ∀ k, sc k = sc' k) (k : Fin 1024) : normMod x g sh sc k = normMod x' g' sh' sc' k := by
  rw [funext hx, funext hg, funext hsh, funext hsc]

/-- The normalised, modulated row `s`, with modulation vectors `j` (shift) and `j'` (scale). -/
def hidden (x : Seq) (c : Ctx) (g : Vec1) (ml : ModSeq) (mc : ModCtx) (j j' : Fin 6) (b : Fin 8) (s : Fin 4352) (k : Fin 1024) : EReal :=
  normMod (row x c b s) (fun k => g (ix1 k)) (modOf ml mc b s j) (modOf ml mc b s j') k

/-- Row `s` projected to column `n` of a weight matrix. -/
def proj {N : ℕ} (x : Seq) (c : Ctx) (g : Vec1) (ml : ModSeq) (mc : ModCtx) (j j' : Fin 6)
    (w : (⟨2, ![1024, N]⟩ : Shape).Idx → EReal) (b : Fin 8) (s : Fin 4352) (n : Fin N) : EReal :=
  ∑ k, hidden x c g ml mc j j' b s k * w (ix2 k n)

/-- An output projection added to the stream, through the gate (modulation vector 2). -/
def outProj (a : (⟨3, ![8, 4352, 1024]⟩ : Shape).Idx → EReal) (x : Seq) (c : Ctx) (ml : ModSeq) (mc : ModCtx)
    (w : (⟨2, ![1024, 1024]⟩ : Shape).Idx → EReal) (b : Fin 8) (s : Fin 4352) (n : Fin 1024) : EReal :=
  row x c b s n + modOf ml mc b s 2 n * ∑ k, a (ix3 b s k) * w (ix2 k n)

end Cert.Rows

end
-- ==== Proof.Rope.lean ====
/- The rotary embedding on the 64 × 64 grid, in the extended reals. Of every 32 columns, the first 16 are rotated against the
   last 16; the angles of columns 0-31 of a head go with the row of the grid, those of columns 32-63 with its column. The
   context rows stay as they are. -/
module

public import Idealize.ShloMosaic.Lib.Pipeline.ValueKit
public import Idealize.ShloMosaic.Lib.Pointwise

@[expose] public section

noncomputable section

open Idealize.ShloMosaic

namespace Cert.Rope

/-- The angle of grid position `t`, on axis `a`, at frequency `f`: the coordinate times `10000 ^ (-f / 16)`. -/
def angle (t a f : ℕ) : EReal :=
  FloatOps.sitofp (F := Ideal) .f32 (BitVec.ofNat 32 (if a < 1 then t / 64 else t % 64))
    * Ideal.pow (Ideal.ofBits .f32 0x461C4000#32) (Ideal.div (-(FloatOps.sitofp (F := Ideal) .f32 (BitVec.ofNat 32 f))) (Ideal.ofBits .f32 0x41800000#32))

/-- Column `n` of row `s`, rotated. -/
def rope (p : Fin 3072 → EReal) (s : ℕ) (n : Fin 3072) : EReal :=
  if s < 256 then p n
  else if h : n.val % 32 < 16 then
    p n * Ideal.cos (angle (s - 256) (n.val % 64 / 32) (n.val % 32)) - p ⟨n.val + 16, by omega⟩ * Ideal.sin (angle (s - 256) (n.val % 64 / 32) (n.val % 32))
  else p n * Ideal.cos (angle (s - 256) (n.val % 64 / 32) (n.val % 32 - 16)) + p ⟨n.val - 16, by omega⟩ * Ideal.sin (angle (s - 256) (n.val % 64 / 32) (n.val % 32 - 16))

/-- Column `n` of row `s` of the result: queries rotated and scaled by 1/8, keys rotated, values as they are. -/
def qkv (p : Fin 3072 → EReal) (s : ℕ) (n : Fin 3072) : EReal :=
  if n.val < 1024 then rope p s n * Ideal.ofBits .f32 0x3E000000#32 else if n.val < 2048 then rope p s n else p n

end Cert.Rope

end
-- ==== Proof.QkvTiles.lean ====
/- What one grid point stores: 24 tiles of 128 columns, read as one function of the column. -/
module

public import proofs.«01_k».proof.Proof.Rows
public import proofs.«01_k».proof.Proof.Rope
public import proofs.«01_k».proof.Proof.Gen.QkvIdeal.Frame
public import Idealize.ShloMosaic.Lib.Pipeline.ValueKit
public import Idealize.ShloMosaic.Lib.KernelVsHost
public import Idealize.ShloMosaic.Lib.Claim

@[expose] public section

set_option maxRecDepth 16384

noncomputable section

open Idealize.ShloMosaic Idealize.ShloMosaic.TcCoe Idealize.SL.Sem

namespace Cert.QkvIdeal.Calls

open Cert.QkvIdeal Cert.QkvIdeal.Gen Cert.Rows Cert.Rope

/-- The lanes rotated forward: the first 16 of every 32. -/
theorem mask_at (x0 : FVec Ideal S1x256x1024 .f32) (x1 : FVec Ideal S1x1024 .f32) (x2 : FVec Ideal S1x1x2x1024 .f32) (x3 : FVec Ideal S1024x3072 .bf16)
    (x4 x5 : FVec Ideal S256x128 .f32) (j : Fin 128) :
    k0_pay47 (F := Ideal) x0 x1 x2 x3 x4 x5 (ix2 0 j) = if j.val % 32 < 16 then 1#1 else 0#1 := by
  pointwise [k0_pay47, k0_pay5, k0_pay43]
  revert j
  decide +kernel

/-- A tile's lanes exchanged in halves of 16. -/
def turned (v : FVec Ideal S256x128 .f32) (k : IVec S1x128 1) : FVec Ideal S256x128 .f32 :=
  select (broadcastTo S256x128 (shapeCast S1x128 k shapeCasts_S1x128_S1x128) broadcasts_S1x128_S256x128)
    (dynamicRotate 1 112#32 none v rotates_S256x128_d1) (dynamicRotate 1 16#32 none v rotates_S256x128_d1)

theorem turned_at (v : FVec Ideal S256x128 .f32) (k : IVec S1x128 1) (hk : ∀ j : Fin 128, k (ix2 0 j) = if j.val % 32 < 16 then 1#1 else 0#1)
    (r : Fin 256) (j : Fin 128) :
    turned v k (ix2 r j) = if h : j.val % 32 < 16 then v (ix2 r ⟨j.val + 16, by omega⟩) else v (ix2 r ⟨j.val - 16, by omega⟩) := by
  unfold turned
  pointwise
  rw [hk j]
  by_cases h : j.val % 32 < 16
  · rw [if_pos h, dif_pos h]
    exact congrArg v (congrArg (ix2 r) (Fin.ext (by dsimp only; omega)))
  · rw [if_neg h, dif_neg h]
    exact congrArg v (congrArg (ix2 r) (Fin.ext (by dsimp only; omega)))

/-- A tile of keys. -/
def tileK (v c s : FVec Ideal S256x128 .f32) (k : IVec S1x128 1) : FVec Ideal S1x256x128 .bf16 :=
  shapeCast S1x256x128 (truncf .bf16 (addf (mulf v c) (mulf (turned v k) s)) bitsLt_bf16_f32) shapeCasts_S256x128_S1x256x128

/-- A tile of queries. -/
def tileQ (v c s : FVec Ideal S256x128 .f32) (k : IVec S1x128 1) : FVec Ideal S1x256x128 .bf16 :=
  shapeCast S1x256x128 (truncf .bf16 (mulf (addf (mulf v c) (mulf (turned v k) s)) (broadcast S256x128 (Scalar.ofBits .f32 0x3E000000#32))) bitsLt_bf16_f32)
    shapeCasts_S256x128_S1x256x128

/-- A tile of values. -/
def tileV (v : FVec Ideal S256x128 .f32) : FVec Ideal S1x256x128 .bf16 :=
  shapeCast S1x256x128 (truncf .bf16 v bitsLt_bf16_f32) shapeCasts_S256x128_S1x256x128

/-- A column of the block: a rotated pair's member before the scale. -/
def pair (P : FVec Ideal S256x3072 .f32) (c s : FVec Ideal S256x128 .f32) (r : Fin 256) (n : Fin 3072) : EReal :=
  P (ix2 r n) * c (ix2 r ⟨n.val % 128, by omega⟩)
    + (if h : n.val % 32 < 16 then P (ix2 r ⟨n.val + 16, by omega⟩) else P (ix2 r ⟨n.val - 16, by omega⟩)) * s (ix2 r ⟨n.val % 128, by omega⟩)

/-- A column of the block. -/
def block (P : FVec Ideal S256x3072 .f32) (c s : FVec Ideal S256x128 .f32) (i : S1x256x3072.Idx) : EReal :=
  if (i 2).val < 1024 then pair P c s (i 1) (i 2) * Ideal.ofBits .f32 0x3E000000#32
  else if (i 2).val < 2048 then pair P c s (i 1) (i 2) else P (ix2 (i 1) (i 2))

/-- The kernel's tile at column `o + j` of the block. -/
theorem slice_at (P : FVec Ideal S256x3072 .f32) (o : ℕ) (hs : S256x3072.Slices ![0, o] S256x128) (r : Fin 256) (j : Fin 128) (n : Fin 3072) (hn : n.val = o + j.val) :
    extractStridedSlice S256x128 ![0, o] P hs (ix2 r j) = P (ix2 r n) := by
  refine congrArg P (funext fun a => match a with | ⟨0, _⟩ => Fin.ext (Nat.zero_add _) | ⟨1, _⟩ => Fin.ext hn.symm)

theorem pair_at (P : FVec Ideal S256x3072 .f32) (c s : FVec Ideal S256x128 .f32) (k : IVec S1x128 1) (hk : ∀ j : Fin 128, k (ix2 0 j) = if j.val % 32 < 16 then 1#1 else 0#1)
    (o : ℕ) (ho : o % 128 = 0) (hs : S256x3072.Slices ![0, o] S256x128) (r : Fin 256) (j : Fin 128) (n : Fin 3072) (hn : n.val = o + j.val) :
    extractStridedSlice S256x128 ![0, o] P hs (ix2 r j) * c (ix2 r j) + turned (extractStridedSlice S256x128 ![0, o] P hs) k (ix2 r j) * s (ix2 r j)
      = pair P c s r n := by
  unfold pair
  have hj : j = ⟨n.val % 128, by omega⟩ := Fin.ext (by dsimp only; omega)
  rw [turned_at _ k hk, slice_at P o hs r j n hn, ← hj]
  refine congrArg₂ (· + ·) rfl (congrArg₂ (· * ·) ?_ rfl)
  by_cases h : j.val % 32 < 16
  · rw [dif_pos h, dif_pos (by omega)]
    exact slice_at P o hs r _ _ (by dsimp only; omega)
  · rw [dif_neg h, dif_neg (by omega)]
    exact slice_at P o hs r _ _ (by dsimp only; omega)

theorem tileQ_at (P : FVec Ideal S256x3072 .f32) (c s : FVec Ideal S256x128 .f32) (k : IVec S1x128 1) (hk : ∀ j : Fin 128, k (ix2 0 j) = if j.val % 32 < 16 then 1#1 else 0#1)
    (o : ℕ) (ho : o % 128 = 0) (ho' : o < 1024) (hs : S256x3072.Slices ![0, o] S256x128) (x : S1x256x128.Idx) (i : S1x256x3072.Idx)
    (h1 : (i 1).val = 0 + 1 * (x 1).val) (h2 : (i 2).val = o + 1 * (x 2).val) : tileQ (extractStridedSlice S256x128 ![0, o] P hs) c s k x = block P c s i := by
  have hx : (x 2).val < 128 := (x 2).isLt
  have e1 : i 1 = x 1 := Fin.ext (by omega)
  unfold block tileQ
  rw [if_pos (by omega), e1, ← pair_at P c s k hk o ho hs (x 1) (x 2) (i 2) (by omega)]
  generalize extractStridedSlice S256x128 ![0, o] P hs = v
  generalize hu : turned v k = u
  pointwise

theorem tileK_at (P : FVec Ideal S256x3072 .f32) (c s : FVec Ideal S256x128 .f32) (k : IVec S1x128 1) (hk : ∀ j : Fin 128, k (ix2 0 j) = if j.val % 32 < 16 then 1#1 else 0#1)
    (o : ℕ) (ho : o % 128 = 0) (ho' : 1024 ≤ o ∧ o < 2048) (hs : S256x3072.Slices ![0, o] S256x128) (x : S1x256x128.Idx) (i : S1x256x3072.Idx)
    (h1 : (i 1).val = 0 + 1 * (x 1).val) (h2 : (i 2).val = o + 1 * (x 2).val) : tileK (extractStridedSlice S256x128 ![0, o] P hs) c s k x = block P c s i := by
  have hx : (x 2).val < 128 := (x 2).isLt
  have e1 : i 1 = x 1 := Fin.ext (by omega)
  unfold block tileK
  rw [if_neg (by omega), if_pos (by omega), e1, ← pair_at P c s k hk o ho hs (x 1) (x 2) (i 2) (by omega)]
  generalize extractStridedSlice S256x128 ![0, o] P hs = v
  generalize hu : turned v k = u
  pointwise

theorem tileV_at (P : FVec Ideal S256x3072 .f32) (c s : FVec Ideal S256x128 .f32)
    (o : ℕ) (ho' : 2048 ≤ o) (hs : S256x3072.Slices ![0, o] S256x128) (x : S1x256x128.Idx) (i : S1x256x3072.Idx)
    (h1 : (i 1).val = 0 + 1 * (x 1).val) (h2 : (i 2).val = o + 1 * (x 2).val) : tileV (extractStridedSlice S256x128 ![0, o] P hs) x = block P c s i := by
  have hx : (x 2).val < 128 := (x 2).isLt
  have e1 : i 1 = x 1 := Fin.ext (by omega)
  unfold block tileV
  rw [if_neg (by omega), if_neg (by omega), e1, ← slice_at P o hs (x 1) (x 2) (i 2) (by omega)]
  generalize extractStridedSlice S256x128 ![0, o] P hs = v
  pointwise

/-- The block a grid point stores. -/
theorem out_at (x0 : FVec Ideal S1x256x1024 .f32) (x1 : FVec Ideal S1x1024 .f32) (x2 : FVec Ideal S1x1x2x1024 .f32) (x3 : FVec Ideal S1024x3072 .bf16)
    (x4 x5 : FVec Ideal S256x128 .f32) (y : S1x256x3072.Idx) :
    out0_6 (F := Ideal) x0 x1 x2 x3 x4 x5 y
      = block (k0_pay44 x0 x1 x2 x3 x4 x5) (k0_pay45 x0 x1 x2 x3 x4 x5) (k0_pay46 x0 x1 x2 x3 x4 x5) y := by
  have hk := mask_at x0 x1 x2 x3 x4 x5
  unfold out0_6
  let P := k0_pay44 (F := Ideal) x0 x1 x2 x3 x4 x5
  let C := k0_pay45 (F := Ideal) x0 x1 x2 x3 x4 x5
  let S := k0_pay46 (F := Ideal) x0 x1 x2 x3 x4 x5
  refine View.canon_apply_of_pieces (Val := Elt Ideal) (e := .bf16) (block (k0_pay44 x0 x1 x2 x3 x4 x5) (k0_pay45 x0 x1 x2 x3 x4 x5) (k0_pay46 x0 x1 x2 x3 x4 x5)) _ ?_ y (cover0_6 _ _ _ _ _ _ _ _ _ _ _ _ _ _ _ _ _ _ _ _ _ _ _ _ y)
  simp only [List.forall_mem_cons]
  exact ⟨fun x => tileV_at P C S 2944 (by omega) slices_S256x3072_o0_2944_S256x128 x _ rfl rfl,
    fun x => tileV_at P C S 2816 (by omega) slices_S256x3072_o0_2816_S256x128 x _ rfl rfl,
    fun x => tileV_at P C S 2688 (by omega) slices_S256x3072_o0_2688_S256x128 x _ rfl rfl,
    fun x => tileV_at P C S 2560 (by omega) slices_S256x3072_o0_2560_S256x128 x _ rfl rfl,
    fun x => tileV_at P C S 2432 (by omega) slices_S256x3072_o0_2432_S256x128 x _ rfl rfl,
    fun x => tileV_at P C S 2304 (by omega) slices_S256x3072_o0_2304_S256x128 x _ rfl rfl,
    fun x => tileV_at P C S 2176 (by omega) slices_S256x3072_o0_2176_S256x128 x _ rfl rfl,
    fun x => tileV_at P C S 2048 (by omega) slices_S256x3072_o0_2048_S256x128 x _ rfl rfl,
    fun x => tileK_at P C S _ hk 1920 (by omega) (by omega) slices_S256x3072_o0_1920_S256x128 x _ rfl rfl,
    fun x => tileK_at P C S _ hk 1792 (by omega) (by omega) slices_S256x3072_o0_1792_S256x128 x _ rfl rfl,
    fun x => tileK_at P C S _ hk 1664 (by omega) (by omega) slices_S256x3072_o0_1664_S256x128 x _ rfl rfl,
    fun x => tileK_at P C S _ hk 1536 (by omega) (by omega) slices_S256x3072_o0_1536_S256x128 x _ rfl rfl,
    fun x => tileK_at P C S _ hk 1408 (by omega) (by omega) slices_S256x3072_o0_1408_S256x128 x _ rfl rfl,
    fun x => tileK_at P C S _ hk 1280 (by omega) (by omega) slices_S256x3072_o0_1280_S256x128 x _ rfl rfl,
    fun x => tileK_at P C S _ hk 1152 (by omega) (by omega) slices_S256x3072_o0_1152_S256x128 x _ rfl rfl,
    fun x => tileK_at P C S _ hk 1024 (by omega) (by omega) slices_S256x3072_o0_1024_S256x128 x _ rfl rfl,
    fun x => tileQ_at P C S _ hk 896 (by omega) (by omega) slices_S256x3072_o0_896_S256x128 x _ rfl rfl,
    fun x => tileQ_at P C S _ hk 768 (by omega) (by omega) slices_S256x3072_o0_768_S256x128 x _ rfl rfl,
    fun x => tileQ_at P C S _ hk 640 (by omega) (by omega) slices_S256x3072_o0_640_S256x128 x _ rfl rfl,
    fun x => tileQ_at P C S _ hk 512 (by omega) (by omega) slices_S256x3072_o0_512_S256x128 x _ rfl rfl,
    fun x => tileQ_at P C S _ hk 384 (by omega) (by omega) slices_S256x3072_o0_384_S256x128 x _ rfl rfl,
    fun x => tileQ_at P C S _ hk 256 (by omega) (by omega) slices_S256x3072_o0_256_S256x128 x _ rfl rfl,
    fun x => tileQ_at P C S _ hk 128 (by omega) (by omega) slices_S256x3072_o0_128_S256x128 x _ rfl rfl,
    fun x => tileQ_at P C S _ hk 0 (by omega) (by omega) slices_S256x3072_o0_0_S256x128 x _ rfl rfl,
    fun p hp => absurd hp List.not_mem_nil⟩

theorem proj_at (x0 : FVec Ideal S1x256x1024 .f32) (x1 : FVec Ideal S1x1024 .f32) (x2 : FVec Ideal S1x1x2x1024 .f32) (x3 : FVec Ideal S1024x3072 .bf16)
    (x4 x5 : FVec Ideal S256x128 .f32) (r : Fin 256) (n : Fin 3072) : k0_pay44 (F := Ideal) x0 x1 x2 x3 x4 x5 (ix2 r n)
      = ∑ k, normMod (fun d => x0 (ix3 0 r d)) (fun d => x1 (ix2 0 d)) (fun d => x2 (ix4 0 0 0 d)) (fun d => x2 (ix4 0 0 1 d)) k * x3 (ix2 k n) := by
  unfold normMod
  pointwise [k0_pay44, k0_pay2]

theorem cos_tile (x0 : FVec Ideal S1x256x1024 .f32) (x1 : FVec Ideal S1x1024 .f32) (x2 : FVec Ideal S1x1x2x1024 .f32) (x3 : FVec Ideal S1024x3072 .bf16)
    (x4 x5 : FVec Ideal S256x128 .f32) (r : Fin 256) (j : Fin 128) : k0_pay45 (F := Ideal) x0 x1 x2 x3 x4 x5 (ix2 r j) = x4 (ix2 r j) := by
  pointwise [k0_pay45, k0_pay3]

theorem sin_tile (x0 : FVec Ideal S1x256x1024 .f32) (x1 : FVec Ideal S1x1024 .f32) (x2 : FVec Ideal S1x1x2x1024 .f32) (x3 : FVec Ideal S1024x3072 .bf16)
    (x4 x5 : FVec Ideal S256x128 .f32) (r : Fin 256) (j : Fin 128) : k0_pay46 (F := Ideal) x0 x1 x2 x3 x4 x5 (ix2 r j) = x5 (ix2 r j) := by
  pointwise [k0_pay46, k0_pay4]

/-- A rotated column, from the projected row and the rows of the tables. -/
theorem pair_eq (P : FVec Ideal S256x3072 .f32) (c s : FVec Ideal S256x128 .f32) (p : Fin 3072 → EReal) (q : ℕ) (r : Fin 256) (n : Fin 3072)
    (hP : ∀ n, P (ix2 r n) = p n)
    (hc : ∀ j : Fin 128, c (ix2 r j) = if q < 256 then 1 else if j.val % 32 < 16 then Ideal.cos (angle (q - 256) (j.val % 64 / 32) (j.val % 32))
      else Ideal.cos (angle (q - 256) (j.val % 64 / 32) (j.val % 32 - 16)))
    (hs : ∀ j : Fin 128, s (ix2 r j) = if q < 256 then 0 else if j.val % 32 < 16 then -Ideal.sin (angle (q - 256) (j.val % 64 / 32) (j.val % 32))
      else Ideal.sin (angle (q - 256) (j.val % 64 / 32) (j.val % 32 - 16))) : pair P c s r n = rope p q n := by
  unfold pair rope
  have e1 : n.val % 128 % 32 = n.val % 32 := by omega
  have e2 : n.val % 128 % 64 / 32 = n.val % 64 / 32 := by omega
  rw [hc, hs]
  simp only [hP, e1, e2]
  by_cases h : q < 256
  · simp only [h, ↓reduceIte, mul_one, mul_zero, add_zero]
  · by_cases h' : n.val % 32 < 16
    · simp only [h, h', ↓reduceIte, ↓reduceDIte, mul_neg, sub_eq_add_neg]
    · simp only [h, h', ↓reduceIte, ↓reduceDIte]

end Cert.QkvIdeal.Calls

end
-- ==== Proof.QkvTables.lean ====
/- The rotation tables: a row of cosines and a row of signed sines for every row of the stream. -/
module

public import proofs.«01_k».proof.Proof.Rope
public import proofs.«01_k».proof.Proof.Gen.QkvIdeal.Frame
public import Idealize.ShloMosaic.Lib.Pipeline.ValueKit
public import Idealize.ShloMosaic.Lib.KernelVsHost
public import Idealize.ShloMosaic.Lib.Claim

@[expose] public section

set_option maxRecDepth 16384

noncomputable section

open Idealize.ShloMosaic Idealize.ShloMosaic.TcCoe Idealize.SL.Sem

namespace Cert.QkvIdeal.Calls

open Cert.QkvIdeal Cert.QkvIdeal.Gen Cert.Rope

theorem floor_read (σ : Valuation τ sig (Elt Ideal)) (t : Fin 4096)
    (h11 : σ (Proc.devRef .tc main_v11) = iotaInDim S4096 32 0) (hc : σ (Proc.devRef .tc main_c) = constantI S_ 32 64#32) :
    (show IVec S4096 32 from StableHlo.after hostOps0_1 σ (Proc.devRef .tc main_v12)) (ix1 t) = BitVec.ofNat 32 (t.val / 64) := by
  simp only [hostOps0_1]
  after_results
  rw [h11, hc]
  simp only [StableHlo.TRef.ofBuf_toBuf]
  simp -implicitDefEqProofs only [StableHlo.TRef.toBuf, StableHlo.TRef.ofBuf, cast_cast, cast_eq]
  pointwise
  clear h11 hc
  revert t
  decide +kernel

theorem rem_read (σ : Valuation τ sig (Elt Ideal)) (t : Fin 4096)
    (h11 : σ (Proc.devRef .tc main_v11) = iotaInDim S4096 32 0) (hc : σ (Proc.devRef .tc main_c_0) = constantI S_ 32 64#32) :
    (show IVec S4096 32 from StableHlo.after hostOps0_3 σ (Proc.devRef .tc main_v13)) (ix1 t) = BitVec.ofNat 32 (t.val % 64) := by
  simp only [hostOps0_3]
  after_results
  rw [h11, hc]
  simp only [StableHlo.TRef.ofBuf_toBuf]
  simp -implicitDefEqProofs only [StableHlo.TRef.toBuf, StableHlo.TRef.ofBuf, cast_cast, cast_eq]
  pointwise
  clear h11 hc
  revert t
  decide +kernel

/-- The buffers before the tables are made: the two coordinates of every grid position. -/
abbrev before (m : (ℓ : Loc nD τ sig) → Buf (Elt Ideal) ℓ) (c : Dev nD) : Valuation τ sig (Elt Ideal) :=
  StableHlo.after hostOps0_3 (StableHlo.after hostOps0_2 (StableHlo.after hostOps0_1 (StableHlo.after hostOps0 (fun b => m (c, b)))))

variable (m : (ℓ : Loc nD τ sig) → Buf (Elt Ideal) ℓ)

theorem rem_before (c : Dev nD) (t : Fin 4096) :
    (show IVec S4096 32 from before m c (Proc.devRef .tc main_v13)) (ix1 t) = BitVec.ofNat 32 (t.val % 64) := by
  refine rem_read _ t ?_ ?_
  · simp only [hostOps0_2, hostOps0_1, hostOps0]
    after_results
  · simp only [hostOps0_2, hostOps0_1, hostOps0]
    after_results

theorem floor_keep (σ : Valuation τ sig (Elt Ideal)) :
    StableHlo.after hostOps0_3 (StableHlo.after hostOps0_2 σ) (Proc.devRef .tc main_v12) = σ (Proc.devRef .tc main_v12) := by
  simp only [hostOps0_2, hostOps0_3]
  after_results

theorem floor_before (c : Dev nD) (t : Fin 4096) :
    (show IVec S4096 32 from before m c (Proc.devRef .tc main_v12)) (ix1 t) = BitVec.ofNat 32 (t.val / 64) := by
  refine Eq.trans (congrFun (floor_keep (StableHlo.after hostOps0_1 (StableHlo.after hostOps0 (fun b => m (c, b))))) (ix1 t))
    (floor_read (StableHlo.after hostOps0 (fun b => m (c, b))) t ?_ ?_)
  · simp only [hostOps0]
    after_results
  · simp only [hostOps0]
    after_results

theorem cos_at (σ : Valuation τ sig (Elt Ideal)) (h12 : ∀ t : Fin 4096, (show IVec S4096 32 from σ (Proc.devRef .tc main_v12)) (ix1 t) = BitVec.ofNat 32 (t.val / 64))
    (h13 : ∀ t : Fin 4096, (show IVec S4096 32 from σ (Proc.devRef .tc main_v13)) (ix1 t) = BitVec.ofNat 32 (t.val % 64)) (s : Fin 4352) (j : Fin 128) (R : EReal)
    (hR : R = if s.val < 256 then 1 else if j.val % 32 < 16 then Ideal.cos (angle (s.val - 256) (j.val % 64 / 32) (j.val % 32))
      else Ideal.cos (angle (s.val - 256) (j.val % 64 / 32) (j.val % 32 - 16))) :
    (show FVec Ideal S4352x128 .f32 from StableHlo.after hostOps0_4 σ (Proc.devRef .tc main_v43)) (ix2 s j) = R := by
  simp only [hostOps0_4]
  after_results
  pointwise
  rw [hR]
  clear hR
  have hj : j.val % 64 % 32 = j.val % 32 := by omega
  by_cases h : s.val < 256
  · simp only [h, ↓reduceDIte, ↓reduceIte]
  · simp only [h, ↓reduceDIte, ↓reduceIte]
    have e12 : σ (Proc.devRef .tc main_v12) (ix1 (⟨s.val - 256, by omega⟩ : Fin 4096)) = BitVec.ofNat 32 ((s.val - 256) / 64) := h12 _
    have e13 : σ (Proc.devRef .tc main_v13) (ix1 (⟨s.val - 256, by omega⟩ : Fin 4096)) = BitVec.ofNat 32 ((s.val - 256) % 64) := h13 _
    simp only [e12, e13, hj, apply_ite (BitVec.ofNat 32), dite_eq_ite, angle]

theorem sin_at (σ : Valuation τ sig (Elt Ideal)) (h12 : ∀ t : Fin 4096, (show IVec S4096 32 from σ (Proc.devRef .tc main_v12)) (ix1 t) = BitVec.ofNat 32 (t.val / 64))
    (h13 : ∀ t : Fin 4096, (show IVec S4096 32 from σ (Proc.devRef .tc main_v13)) (ix1 t) = BitVec.ofNat 32 (t.val % 64)) (s : Fin 4352) (j : Fin 128) (R : EReal)
    (hR : R = if s.val < 256 then 0 else if j.val % 32 < 16 then -Ideal.sin (angle (s.val - 256) (j.val % 64 / 32) (j.val % 32))
      else Ideal.sin (angle (s.val - 256) (j.val % 64 / 32) (j.val % 32 - 16))) :
    (show FVec Ideal S4352x128 .f32 from StableHlo.after hostOps0_4 σ (Proc.devRef .tc main_v45)) (ix2 s j) = R := by
  simp only [hostOps0_4]
  after_results
  pointwise
  rw [hR]
  clear hR
  have hj : j.val % 64 % 32 = j.val % 32 := by omega
  by_cases h : s.val < 256
  · simp only [h, ↓reduceDIte, ↓reduceIte]
  · simp only [h, ↓reduceDIte, ↓reduceIte]
    have e12 : σ (Proc.devRef .tc main_v12) (ix1 (⟨s.val - 256, by omega⟩ : Fin 4096)) = BitVec.ofNat 32 ((s.val - 256) / 64) := h12 _
    have e13 : σ (Proc.devRef .tc main_v13) (ix1 (⟨s.val - 256, by omega⟩ : Fin 4096)) = BitVec.ofNat 32 ((s.val - 256) % 64) := h13 _
    simp only [e12, e13, hj, apply_ite (BitVec.ofNat 32), dite_eq_ite, angle]

/-- The table of cosines. -/
theorem cos_read (c : Dev nD) (s : Fin 4352) (j : Fin 128) :
    (show FVec Ideal S4352x128 .f32 from V m c main_v43) (ix2 s j)
      = if s.val < 256 then 1 else if j.val % 32 < 16 then Ideal.cos (angle (s.val - 256) (j.val % 64 / 32) (j.val % 32))
          else Ideal.cos (angle (s.val - 256) (j.val % 64 / 32) (j.val % 32 - 16)) :=
  cos_at (before m c) (floor_before m c) (rem_before m c) s j _ rfl

/-- The table of sines, negative in the first half of every 32 columns. -/
theorem sin_read (c : Dev nD) (s : Fin 4352) (j : Fin 128) :
    (show FVec Ideal S4352x128 .f32 from V m c main_v45) (ix2 s j)
      = if s.val < 256 then 0 else if j.val % 32 < 16 then -Ideal.sin (angle (s.val - 256) (j.val % 64 / 32) (j.val % 32))
          else Ideal.sin (angle (s.val - 256) (j.val % 64 / 32) (j.val % 32 - 16)) :=
  sin_at (before m c) (floor_before m c) (rem_before m c) s j _ rfl

end Cert.QkvIdeal.Calls

end
-- ==== Proof.QkvBlocks.lean ====
/- The query, key and value projection: every grid point writes 256 rows, projected and rotated. -/
module

public import proofs.«01_k».proof.Proof.QkvTiles
public import proofs.«01_k».proof.Proof.QkvTables
public import proofs.«01_k».proof.Proof.Gen.QkvIdeal.Frame
public import Idealize.ShloMosaic.Lib.Pipeline.ValueKit
public import Idealize.ShloMosaic.Lib.KernelVsHost
public import Idealize.ShloMosaic.Lib.Claim

@[expose] public section

set_option maxRecDepth 16384

noncomputable section

open Idealize.ShloMosaic Idealize.ShloMosaic.TcCoe Idealize.SL.Sem

namespace Cert.QkvIdeal.Calls

open Cert.QkvIdeal Cert.QkvIdeal.Gen Cert.Rows Cert.Rope

variable (m : (ℓ : Loc nD τ sig) → Buf (Elt Ideal) ℓ)

theorem N_lt (t : Fin cfg0.N) : t.val < 136 := lt_of_lt_of_eq t.isLt (by decide +kernel : cfg0.N = 136)

theorem idx : ∀ t : Fin cfg0.N, win0_0.index t = ![t.val / 17, t.val % 17, 0] ∧ win0_1.index t = ![0, 0]
    ∧ win0_2.index t = ![t.val / 17, min (t.val % 17) 1, 0, 0] ∧ win0_3.index t = ![0, 0]
    ∧ win0_4.index t = ![t.val % 17, 0] ∧ win0_5.index t = ![t.val % 17, 0]
    ∧ win0_6.index t = ![t.val / 17, t.val % 17, 0] :=
  (by decide +kernel : ∀ t : Fin grid0.N, _)

theorem stream_read (c : Dev nD) (b : Fin 8) (s : Fin 4352) (k : Fin 1024) :
    (show FVec Ideal S8x4352x1024 .f32 from V m c main_v0) (ix3 b s k)
      = row (m ((c : Thread nD τ).loc main_arg0)) (m ((c : Thread nD τ).loc main_arg1)) b s k := by
  simp only [V, hostOps0, hostOps0_1, hostOps0_2, hostOps0_3, hostOps0_4, List.flatten_cons, List.flatten_nil, List.append_nil, List.cons_append, List.nil_append]
  entry_read
  pointwise [row]

theorem gain_read (c : Dev nD) (k : Fin 1024) :
    (show FVec Ideal S1x1024 .f32 from V m c main_v48) (ix2 0 k)
      = (show FVec Ideal S1024 .f32 from m ((c : Thread nD τ).loc main_arg2)) (ix1 k) := by
  simp only [V, hostOps0, hostOps0_1, hostOps0_2, hostOps0_3, hostOps0_4, List.flatten_cons, List.flatten_nil, List.append_nil, List.cons_append, List.nil_append]
  entry_read
  pointwise

theorem weight_read (c : Dev nD) (k : Fin 1024) (n : Fin 3072) :
    (show FVec Ideal S1024x3072 .bf16 from V m c main_v47) (ix2 k n)
      = (show FVec Ideal S1024x3072 .f32 from m ((c : Thread nD τ).loc main_arg5)) (ix2 k n) := by
  simp only [V, hostOps0, hostOps0_1, hostOps0_2, hostOps0_3, hostOps0_4, List.flatten_cons, List.flatten_nil, List.append_nil, List.cons_append, List.nil_append]
  entry_read
  pointwise

theorem mod_ctx (c : Dev nD) (b : Fin 8) (j : Fin 2) (k : Fin 1024) :
    (show FVec Ideal S8x2x2x1024 .f32 from V m c main_v46) (ix4 b 0 j k)
      = (show FVec Ideal S6x1024 .f32 from m ((c : Thread nD τ).loc main_arg4)) (ix2 ⟨0 + j.val, by omega⟩ k) := by
  simp only [V, hostOps0, hostOps0_1, hostOps0_2, hostOps0_3, hostOps0_4, List.flatten_cons, List.flatten_nil, List.append_nil, List.cons_append, List.nil_append]
  entry_read
  pointwise

theorem mod_seq (c : Dev nD) (b : Fin 8) (j : Fin 2) (k : Fin 1024) :
    (show FVec Ideal S8x2x2x1024 .f32 from V m c main_v46) (ix4 b 1 j k)
      = (show FVec Ideal S8x6x1x1024 .f32 from m ((c : Thread nD τ).loc main_arg3)) (ix4 b ⟨0 + j.val, by omega⟩ 0 k) := by
  simp only [V, hostOps0, hostOps0_1, hostOps0_2, hostOps0_3, hostOps0_4, List.flatten_cons, List.flatten_nil, List.append_nil, List.cons_append, List.nil_append]
  entry_read
  pointwise

theorem mod_block (c : Dev nD) (t : Fin cfg0.N) (j : Fin 2) (n : Fin 1024) :
    (show FVec Ideal S1x1x2x1024 .f32 from iblk m c 2 t) (ix4 0 0 j n)
      = (show FVec Ideal S8x2x2x1024 .f32 from V m c main_v46)
          (ix4 (⟨t.val / 17, by have := N_lt t; omega⟩ : Fin 8) (⟨min (t.val % 17) 1, by omega⟩ : Fin 2) j n) := by
  have ht := N_lt t
  blk_ext [iblk, idx t]

/-- The modulation vectors of grid point `t`. -/
theorem mod_read (c : Dev nD) (t : Fin cfg0.N) (r : Fin 256) (j : Fin 2) (n : Fin 1024) :
    (show FVec Ideal S1x1x2x1024 .f32 from iblk m c 2 t) (ix4 0 0 j n)
      = modOf (m ((c : Thread nD τ).loc main_arg3)) (m ((c : Thread nD τ).loc main_arg4))
          ⟨t.val / 17, by have := N_lt t; omega⟩ ⟨t.val % 17 * 256 + r.val, by omega⟩ ⟨0 + j.val, by omega⟩ n := by
  have ht := N_lt t
  refine (mod_block m c t j n).trans ?_
  by_cases h : t.val % 17 = 0
  · rw [modOf, if_pos (by dsimp only; omega), show (⟨min (t.val % 17) 1, by omega⟩ : Fin 2) = 0 from Fin.ext (show min (t.val % 17) 1 = 0 by omega)]
    exact mod_ctx m c ⟨t.val / 17, by omega⟩ j n
  · rw [modOf, if_neg (by dsimp only; omega), show (⟨min (t.val % 17) 1, by omega⟩ : Fin 2) = 1 from Fin.ext (show min (t.val % 17) 1 = 1 by omega)]
    exact mod_seq m c ⟨t.val / 17, by omega⟩ j n

/-- The row a grid point norms, as a row of the stream. -/
theorem hidden_read (c : Dev nD) (t : Fin cfg0.N) (r : Fin 256) (k : Fin 1024) :
    normMod (fun d => (show FVec Ideal S1x256x1024 .f32 from iblk m c 0 t) (ix3 0 r d)) (fun d => (show FVec Ideal S1x1024 .f32 from iblk m c 1 t) (ix2 0 d))
        (fun d => (show FVec Ideal S1x1x2x1024 .f32 from iblk m c 2 t) (ix4 0 0 0 d)) (fun d => (show FVec Ideal S1x1x2x1024 .f32 from iblk m c 2 t) (ix4 0 0 1 d)) k
      = hidden (m ((c : Thread nD τ).loc main_arg0)) (m ((c : Thread nD τ).loc main_arg1)) (m ((c : Thread nD τ).loc main_arg2))
          (m ((c : Thread nD τ).loc main_arg3)) (m ((c : Thread nD τ).loc main_arg4)) 0 1
          ⟨t.val / 17, by have := N_lt t; omega⟩ ⟨t.val % 17 * 256 + r.val, by omega⟩ k := by
  refine normMod_congr (fun d => ?_) (fun d => ?_) (fun d => mod_read m c t r 0 d) (fun d => mod_read m c t r 1 d) k
  · refine Eq.trans ?_ (stream_read m c _ _ _)
    blk_ext [iblk, idx t]
  · refine Eq.trans ?_ (gain_read m c _)
    blk_ext [iblk, idx t]

/-- The projection of row `s` of batch `b`. -/
def projRow (c : Dev nD) (b : Fin 8) (s : Fin 4352) (n : Fin 3072) : EReal :=
  proj (m ((c : Thread nD τ).loc main_arg0)) (m ((c : Thread nD τ).loc main_arg1)) (m ((c : Thread nD τ).loc main_arg2))
    (m ((c : Thread nD τ).loc main_arg3)) (m ((c : Thread nD τ).loc main_arg4)) 0 1 (m ((c : Thread nD τ).loc main_arg5)) b s n

/-- The kernel's result at an index. -/
def outAt (c : Dev nD) (i : S8x4352x3072.Idx) : EReal := qkv (projRow m c (i 0) (i 1)) (i 1).val (i 2)

theorem weight_block (c : Dev nD) (t : Fin cfg0.N) (k : Fin 1024) (n : Fin 3072) :
    (show FVec Ideal S1024x3072 .bf16 from iblk m c 3 t) (ix2 k n) = (show FVec Ideal S1024x3072 .f32 from m ((c : Thread nD τ).loc main_arg5)) (ix2 k n) := by
  refine Eq.trans ?_ (weight_read m c k n)
  blk_ext [iblk, idx t]

theorem proj_read (c : Dev nD) (t : Fin cfg0.N) (r : Fin 256) (n : Fin 3072) :
    k0_pay44 (F := Ideal) (iblk m c 0 t) (iblk m c 1 t) (iblk m c 2 t) (iblk m c 3 t) (iblk m c 4 t) (iblk m c 5 t) (ix2 r n)
      = projRow m c ⟨t.val / 17, by have := N_lt t; omega⟩ ⟨t.val % 17 * 256 + r.val, by omega⟩ n := by
  refine (proj_at _ _ _ _ _ _ r n).trans (Finset.sum_congr rfl fun k _ => congrArg₂ (· * ·) (hidden_read m c t r k) (weight_block m c t k n))

theorem cos_block (c : Dev nD) (t : Fin cfg0.N) (r : Fin 256) (j : Fin 128) :
    (show FVec Ideal S256x128 .f32 from iblk m c 4 t) (ix2 r j)
      = (show FVec Ideal S4352x128 .f32 from V m c main_v43) (ix2 (⟨t.val % 17 * 256 + r.val, by omega⟩ : Fin 4352) j) := by
  blk_ext [iblk, idx t]

theorem sin_block (c : Dev nD) (t : Fin cfg0.N) (r : Fin 256) (j : Fin 128) :
    (show FVec Ideal S256x128 .f32 from iblk m c 5 t) (ix2 r j)
      = (show FVec Ideal S4352x128 .f32 from V m c main_v45) (ix2 (⟨t.val % 17 * 256 + r.val, by omega⟩ : Fin 4352) j) := by
  blk_ext [iblk, idx t]

theorem point (c : Dev nD) (t : Fin cfg0.N) (r : Fin 256) (n : Fin 3072) :
    out0_6 (F := Ideal) (iblk m c 0 t) (iblk m c 1 t) (iblk m c 2 t) (iblk m c 3 t) (iblk m c 4 t) (iblk m c 5 t) (ix3 0 r n)
      = outAt m c (ix3 ⟨t.val / 17, by have := N_lt t; omega⟩ ⟨t.val % 17 * 256 + r.val, by omega⟩ n) := by
  rw [out_at]
  unfold block outAt qkv
  have hp := pair_eq _ _ _ (projRow m c ⟨t.val / 17, by have := N_lt t; omega⟩ ⟨t.val % 17 * 256 + r.val, by omega⟩) (t.val % 17 * 256 + r.val) r n
    (proj_read m c t r)
    (fun j => (cos_tile (iblk m c 0 t) (iblk m c 1 t) (iblk m c 2 t) (iblk m c 3 t) (iblk m c 4 t) (iblk m c 5 t) r j).trans ((cos_block m c t r j).trans (cos_read m c _ j)))
    (fun j => (sin_tile (iblk m c 0 t) (iblk m c 1 t) (iblk m c 2 t) (iblk m c 3 t) (iblk m c 4 t) (iblk m c 5 t) r j).trans ((sin_block m c t r j).trans (sin_read m c _ j)))
  exact congrArg₂ (fun a b => if n.val < 1024 then a * Ideal.ofBits .f32 0x3E000000#32 else if n.val < 2048 then a else b) hp (proj_read m c t r n)

/-- The result array after the region. -/
theorem final (c : Dev nD) : (dats m 0 c).arrAt 6 (cfgs 0).N = outAt m c := by
  refine (dats m 0 c).arrAt_eq_of_covers 6 _ (by decide +kernel) fun t hf y => ?_
  blk_simp
  rw [after0_6]
  have ht := N_lt t
  have hy : (y : S1x256x3072.Idx) = ix3 0 (y 1) (y 2) := by
    refine (eq_ix3 (y : S1x256x3072.Idx)).trans ?_
    rw [show y 0 = (0 : Fin 1) from Subsingleton.elim (α := Fin 1) _ _]
    rfl
  refine (congrArg _ hy).trans ((point m c t (y 1) (y 2)).trans (congrArg _ ?_))
  blk_ext [idx t]

end Cert.QkvIdeal.Calls

end
-- ==== Proof.QkvHidden.lean ====
/- The rows that the reference's query, key and value projection projects: each row's norm with its modulation. -/
module

public import proofs.«01_k».proof.Proof.Rows
public import proofs.«01_k».proof.Proof.Gen.QkvRefIdeal.Read
public import Idealize.ShloMosaic.Lib.Claim

@[expose] public section

set_option maxRecDepth 16384

noncomputable section

open Idealize.ShloMosaic Idealize.ShloMosaic.TcCoe Idealize.SL.Sem

namespace Cert.QkvRefIdeal.Hidden

open Cert.QkvRefIdeal Cert.QkvRefIdeal.Gen Cert.QkvRefIdeal.Read Cert.Rows

theorem sum_seq (X : FVec Ideal S8x4096x1024 .f32) (b : Fin 8) (t : Fin 4096) :
    val_main_v1 (F := Ideal) X (ix2 b t) = ∑ d : Fin 1024, X (ix3 b t d) * X (ix3 b t d) := by
  rw [val_main_v1_apply, val_main_cst_apply]
  refine (congrArg₂ (· + ·) (Ideal.ofBits_zero .f32) (Finset.sum_congr rfl fun d _ => ?_)).trans (zero_add _)
  rw [val_main_v0_apply, show idx_main_v1 (ix2 b t) d = ix3 b t d from funext fun a => match a with | ⟨0, _⟩ => rfl | ⟨1, _⟩ => rfl | ⟨2, _⟩ => rfl]
  rfl

theorem rms_seq (X : FVec Ideal S8x4096x1024 .f32) (b : Fin 8) (t : Fin 4096) :
    val_main_v7 (F := Ideal) X (ix3 b t 0) = Ideal.rsqrt (Ideal.div (∑ d : Fin 1024, X (ix3 b t d) * X (ix3 b t d)) (Ideal.ofBits .f32 0x44800000#32)
      + Ideal.ofBits .f32 0x358637BD#32) := by
  rw [val_main_v7_apply, val_main_v6_apply, val_main_v4_apply, val_main_v2_apply, val_main_v3_apply, val_main_v5_apply,
    show idx_main_v2 (ix3 b t 0) = ix2 b t from funext fun a => match a with | ⟨0, _⟩ => rfl | ⟨1, _⟩ => rfl, sum_seq]
  rfl

theorem sum_ctx (C : FVec Ideal S8x256x1024 .f32) (b : Fin 8) (t : Fin 256) :
    val_main_v24 (F := Ideal) C (ix2 b t) = ∑ d : Fin 1024, C (ix3 b t d) * C (ix3 b t d) := by
  rw [val_main_v24_apply, val_main_cst_3_apply]
  refine (congrArg₂ (· + ·) (Ideal.ofBits_zero .f32) (Finset.sum_congr rfl fun d _ => ?_)).trans (zero_add _)
  rw [val_main_v23_apply, show idx_main_v24 (ix2 b t) d = ix3 b t d from funext fun a => match a with | ⟨0, _⟩ => rfl | ⟨1, _⟩ => rfl | ⟨2, _⟩ => rfl]
  rfl

theorem rms_ctx (C : FVec Ideal S8x256x1024 .f32) (b : Fin 8) (t : Fin 256) :
    val_main_v30 (F := Ideal) C (ix3 b t 0) = Ideal.rsqrt (Ideal.div (∑ d : Fin 1024, C (ix3 b t d) * C (ix3 b t d)) (Ideal.ofBits .f32 0x44800000#32)
      + Ideal.ofBits .f32 0x358637BD#32) := by
  rw [val_main_v30_apply, val_main_v29_apply, val_main_v27_apply, val_main_v25_apply, val_main_v26_apply, val_main_v28_apply,
    show idx_main_v25 (ix3 b t 0) = ix2 b t from funext fun a => match a with | ⟨0, _⟩ => rfl | ⟨1, _⟩ => rfl, sum_ctx]
  rfl

theorem gained_seq (X : FVec Ideal S8x4096x1024 .f32) (G : FVec Ideal S1024 .f32) (b : Fin 8) (t : Fin 4096) (k : Fin 1024) :
    val_main_v12 (F := Ideal) X G (ix3 b t k) = X (ix3 b t k) * val_main_v7 (F := Ideal) X (ix3 b t 0) * G (ix1 k) := by
  rw [val_main_v12_apply, val_main_v9_apply, val_main_v8_apply, val_main_v11_apply, val_main_v10_apply,
    show idx_main_v8 (ix3 b t k) = ix3 b t 0 from funext fun a => match a with | ⟨0, _⟩ => rfl | ⟨1, _⟩ => rfl | ⟨2, _⟩ => rfl,
    show idx_main_v10 (idx_main_v11 (ix3 b t k)) = ix1 k from funext fun a => match a with | ⟨0, _⟩ => rfl]
  rfl

theorem gained_ctx (C : FVec Ideal S8x256x1024 .f32) (G : FVec Ideal S1024 .f32) (b : Fin 8) (t : Fin 256) (k : Fin 1024) :
    val_main_v35 (F := Ideal) C G (ix3 b t k) = C (ix3 b t k) * val_main_v30 (F := Ideal) C (ix3 b t 0) * G (ix1 k) := by
  rw [val_main_v35_apply, val_main_v32_apply, val_main_v31_apply, val_main_v34_apply, val_main_v33_apply,
    show idx_main_v31 (ix3 b t k) = ix3 b t 0 from funext fun a => match a with | ⟨0, _⟩ => rfl | ⟨1, _⟩ => rfl | ⟨2, _⟩ => rfl,
    show idx_main_v33 (idx_main_v34 (ix3 b t k)) = ix1 k from funext fun a => match a with | ⟨0, _⟩ => rfl]
  rfl

theorem shift_seq (ML : FVec Ideal S8x6x1x1024 .f32) (b : Fin 8) (k : Fin 1024) :
    val_main_v14 (F := Ideal) ML (ix3 b 0 k) = ML (ix4 b 0 0 k) := by
  pointwise [val_main_v14, val_main_v13]

theorem scale_seq (ML : FVec Ideal S8x6x1x1024 .f32) (b : Fin 8) (k : Fin 1024) :
    val_main_v16 (F := Ideal) ML (ix3 b 0 k) = ML (ix4 b 1 0 k) := by
  pointwise [val_main_v16, val_main_v15]

theorem shift_ctx (MC : FVec Ideal S6x1024 .f32) (k : Fin 1024) : val_main_v37 (F := Ideal) MC (ix1 k) = MC (ix2 0 k) := by
  pointwise [val_main_v37, val_main_v36]

theorem scale_ctx (MC : FVec Ideal S6x1024 .f32) (k : Fin 1024) : val_main_v39 (F := Ideal) MC (ix1 k) = MC (ix2 1 k) := by
  pointwise [val_main_v39, val_main_v38]

/-- The sequence rows, normalised and modulated. -/
theorem seq_at (X : FVec Ideal S8x4096x1024 .f32) (G : FVec Ideal S1024 .f32) (ML : FVec Ideal S8x6x1x1024 .f32) (b : Fin 8) (t : Fin 4096)
    (k : Fin 1024) : val_main_v22 (F := Ideal) X G ML (ix3 b t k)
      = normMod (fun d => X (ix3 b t d)) (fun d => G (ix1 d)) (fun d => ML (ix4 b 0 0 d)) (fun d => ML (ix4 b 1 0 d)) k := by
  rw [val_main_v22_apply, val_main_v20_apply, val_main_v19_apply, val_main_v18_apply, val_main_v17_apply, val_main_v21_apply, gained_seq, rms_seq,
    show idx_main_v19 (ix3 b t k) = ix3 b 0 k from funext fun a => match a with | ⟨0, _⟩ => rfl | ⟨1, _⟩ => rfl | ⟨2, _⟩ => rfl,
    show idx_main_v21 (ix3 b t k) = ix3 b 0 k from funext fun a => match a with | ⟨0, _⟩ => rfl | ⟨1, _⟩ => rfl | ⟨2, _⟩ => rfl,
    shift_seq, scale_seq]
  rfl

/-- The context rows, normalised and modulated. -/
theorem ctx_at (C : FVec Ideal S8x256x1024 .f32) (G : FVec Ideal S1024 .f32) (MC : FVec Ideal S6x1024 .f32) (b : Fin 8) (t : Fin 256)
    (k : Fin 1024) : val_main_v47 (F := Ideal) C G MC (ix3 b t k)
      = normMod (fun d => C (ix3 b t d)) (fun d => G (ix1 d)) (fun d => MC (ix2 0 d)) (fun d => MC (ix2 1 d)) k := by
  rw [val_main_v47_apply, val_main_v44_apply, val_main_v43_apply, val_main_v42_apply, val_main_v41_apply, val_main_v40_apply, val_main_v46_apply,
    val_main_v45_apply, gained_ctx, rms_ctx,
    show idx_main_v42 (idx_main_v43 (ix3 b t k)) = ix1 k from funext fun a => match a with | ⟨0, _⟩ => rfl,
    show idx_main_v45 (idx_main_v46 (ix3 b t k)) = ix1 k from funext fun a => match a with | ⟨0, _⟩ => rfl,
    shift_ctx, scale_ctx]
  rfl

/-- A sequence row as row `s` of the stream. -/
theorem seq_row (X : FVec Ideal S8x4096x1024 .f32) (C : FVec Ideal S8x256x1024 .f32) (G : FVec Ideal S1024 .f32) (ML : FVec Ideal S8x6x1x1024 .f32)
    (MC : FVec Ideal S6x1024 .f32) (b : Fin 8) (s : Fin 4352) (h : ¬ s.val < 256) (k : Fin 1024) :
    val_main_v22 (F := Ideal) X G ML (ix3 b ⟨s.val - 256, by omega⟩ k) = hidden X C G ML MC 0 1 b s k := by
  rw [seq_at]
  refine normMod_congr (fun d => ?_) (fun d => rfl) (fun d => ?_) (fun d => ?_) k
  · rw [row, dif_neg h]
  · exact (if_neg h).symm
  · exact (if_neg h).symm

/-- A context row as row `s` of the stream. -/
theorem ctx_row (X : FVec Ideal S8x4096x1024 .f32) (C : FVec Ideal S8x256x1024 .f32) (G : FVec Ideal S1024 .f32) (ML : FVec Ideal S8x6x1x1024 .f32)
    (MC : FVec Ideal S6x1024 .f32) (b : Fin 8) (s : Fin 4352) (h : s.val < 256) (k : Fin 1024) :
    val_main_v47 (F := Ideal) C G MC (ix3 b ⟨s.val, h⟩ k) = hidden X C G ML MC 0 1 b s k := by
  rw [ctx_at]
  refine normMod_congr (fun d => ?_) (fun d => rfl) (fun d => ?_) (fun d => ?_) k
  · rw [row, dif_pos h]
  · exact (if_pos h).symm
  · exact (if_pos h).symm

end Cert.QkvRefIdeal.Hidden

end
-- ==== Proof.QkvRope.lean ====
/- The reference's query, key and value projection, read at an element. -/
module

public import proofs.«01_k».proof.Proof.Rows
public import proofs.«01_k».proof.Proof.Rope
public import proofs.«01_k».proof.Proof.QkvHidden
public import Idealize.ShloMosaic.Lib.KernelVsHost

@[expose] public section

set_option maxRecDepth 16384

noncomputable section

open Idealize.ShloMosaic Idealize.ShloMosaic.TcCoe Idealize.SL.Sem

namespace Cert.QkvRefIdeal.Calls

open Cert.QkvRefIdeal Cert.QkvRefIdeal.Gen Cert.QkvRefIdeal.Read Cert.QkvRefIdeal.Hidden Cert.Rows Cert.Rope

/-- The reference's angles. -/
theorem angle_at (t : Fin 4096) (a : Fin 2) (f : Fin 16) : val_main_v82 (F := Ideal) (ix3 t a f) = angle t.val a.val f.val := by
  pointwise [val_main_v82, val_main_v81, val_main_v80, val_main_v79, val_main_v78, val_main_v77, val_main_v76, val_main_v75, val_main_v74, val_main_v73,
    val_main_v72, val_main_v71, val_main_v70, val_main_v69, val_main_v68, val_main_v67, val_main_v66, val_main_v65, val_main_v64, val_main_v63, val_main_v62,
    val_main_cst_7, val_main_cst_8]
  simp only [angle, apply_ite (BitVec.ofNat 32), dite_eq_ite]

/-- A rotated query. -/
theorem q_at (X : FVec Ideal S8x4096x1024 .f32) (G : FVec Ideal S1024 .f32) (ML : FVec Ideal S8x6x1x1024 .f32)
    (W : FVec Ideal S1024x3072 .f32) (p : Fin 3072 → EReal) (b : Fin 8) (s : Fin 4096) (h : Fin 8) (z : Fin 2) (j : Fin 64) (n : Fin 3072)
    (hp : ∀ n, val_main_v55 (F := Ideal) X G ML W (ix3 b s n) = p n) (hn : n.val = h.val * 128 + z.val * 64 + j.val) :
    val_main_v105 (F := Ideal) X G ML W (ix5 b s h z j) = rope p (s.val + 256) n := by
  unfold val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v57 val_main_v56
  generalize val_main_v55 (F := Ideal) X G ML W = P at hp
  have hA := angle_at
  generalize val_main_v82 (F := Ideal) = A at hA
  generalize hR : rope p (s.val + 256) n = R
  pointwise
  rw [← hR]
  clear hR
  simp only [hp, hA, rope, Nat.add_sub_cancel]
  have h0 : ¬ s.val + 256 < 256 := by omega
  have e1 : n.val % 64 / 32 = j.val / 32 := by omega
  by_cases hj : n.val % 32 < 16
  · have e2 : n.val % 32 = j.val % 16 := by omega
    have e3 : j.val / 16 % 2 < 1 := by omega
    simp only [h0, hj, e3, ↓reduceIte, ↓reduceDIte]
    simp only [e1, e2]
    exact congrArg₂ (fun x y : EReal => x - y)
      (congrArg₂ (fun x y : EReal => x * y) (congrArg p (Fin.ext (by dsimp only; omega))) rfl)
      (congrArg₂ (fun x y : EReal => x * y) (congrArg p (Fin.ext (by dsimp only; omega))) rfl)
  · have e2 : n.val % 32 - 16 = j.val % 16 := by omega
    have e3 : ¬ j.val / 16 % 2 < 1 := by omega
    simp only [h0, hj, e3, ↓reduceIte, ↓reduceDIte]
    simp only [e1, e2]
    exact congrArg₂ (fun x y : EReal => x + y)
      (congrArg₂ (fun x y : EReal => x * y) (congrArg p (Fin.ext (by dsimp only; omega))) rfl)
      (congrArg₂ (fun x y : EReal => x * y) (congrArg p (Fin.ext (by dsimp only; omega))) rfl)

/-- A rotated key. -/
theorem k_at (X : FVec Ideal S8x4096x1024 .f32) (G : FVec Ideal S1024 .f32) (ML : FVec Ideal S8x6x1x1024 .f32)
    (W : FVec Ideal S1024x3072 .f32) (p : Fin 3072 → EReal) (b : Fin 8) (s : Fin 4096) (h : Fin 8) (z : Fin 2) (j : Fin 64) (n : Fin 3072)
    (hp : ∀ n, val_main_v55 (F := Ideal) X G ML W (ix3 b s n) = p n) (hn : n.val = 1024 + h.val * 128 + z.val * 64 + j.val) :
    val_main_v126 (F := Ideal) X G ML W (ix5 b s h z j) = rope p (s.val + 256) n := by
  unfold val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v84 val_main_v83 val_main_v59 val_main_v58
  generalize val_main_v55 (F := Ideal) X G ML W = P at hp
  have hA := angle_at
  generalize val_main_v82 (F := Ideal) = A at hA
  generalize hR : rope p (s.val + 256) n = R
  pointwise
  rw [← hR]
  clear hR
  simp only [hp, hA, rope, Nat.add_sub_cancel]
  have h0 : ¬ s.val + 256 < 256 := by omega
  have e1 : n.val % 64 / 32 = j.val / 32 := by omega
  by_cases hj : n.val % 32 < 16
  · have e2 : n.val % 32 = j.val % 16 := by omega
    have e3 : j.val / 16 % 2 < 1 := by omega
    simp only [h0, hj, e3, ↓reduceIte, ↓reduceDIte]
    simp only [e1, e2]
    exact congrArg₂ (fun x y : EReal => x - y)
      (congrArg₂ (fun x y : EReal => x * y) (congrArg p (Fin.ext (by dsimp only; omega))) rfl)
      (congrArg₂ (fun x y : EReal => x * y) (congrArg p (Fin.ext (by dsimp only; omega))) rfl)
  · have e2 : n.val % 32 - 16 = j.val % 16 := by omega
    have e3 : ¬ j.val / 16 % 2 < 1 := by omega
    simp only [h0, hj, e3, ↓reduceIte, ↓reduceDIte]
    simp only [e1, e2]
    exact congrArg₂ (fun x y : EReal => x + y)
      (congrArg₂ (fun x y : EReal => x * y) (congrArg p (Fin.ext (by dsimp only; omega))) rfl)
      (congrArg₂ (fun x y : EReal => x * y) (congrArg p (Fin.ext (by dsimp only; omega))) rfl)

/-- A context row's product with the weights. -/
theorem ctx_proj (X : FVec Ideal S8x4096x1024 .f32) (C : FVec Ideal S8x256x1024 .f32) (G : FVec Ideal S1024 .f32) (ML : FVec Ideal S8x6x1x1024 .f32)
    (MC : FVec Ideal S6x1024 .f32) (W : FVec Ideal S1024x3072 .f32) (b : Fin 8) (s : Fin 4352) (h : s.val < 256) (n : Fin 3072) :
    val_main_v48 (F := Ideal) C G MC W (ix3 b ⟨s.val, h⟩ n) = proj X C G ML MC 0 1 W b s n := by
  rw [val_main_v48_apply]
  refine Finset.sum_congr rfl fun k _ => ?_
  rw [show lidx_main_v48 (ix3 b ⟨s.val, h⟩ n) k = ix3 b ⟨s.val, h⟩ k from funext fun a => match a with | ⟨0, _⟩ => rfl | ⟨1, _⟩ => rfl | ⟨2, _⟩ => rfl,
    show ridx_main_v48 (ix3 b ⟨s.val, h⟩ n) k = ix2 k n from funext fun a => match a with | ⟨0, _⟩ => rfl | ⟨1, _⟩ => rfl,
    ctx_row X C G ML MC b s h]

/-- A sequence row's product with the weights. -/
theorem seq_proj (X : FVec Ideal S8x4096x1024 .f32) (C : FVec Ideal S8x256x1024 .f32) (G : FVec Ideal S1024 .f32) (ML : FVec Ideal S8x6x1x1024 .f32)
    (MC : FVec Ideal S6x1024 .f32) (W : FVec Ideal S1024x3072 .f32) (b : Fin 8) (s : Fin 4352) (h : ¬ s.val < 256) (n : Fin 3072) :
    val_main_v55 (F := Ideal) X G ML W (ix3 b ⟨s.val - 256, by omega⟩ n) = proj X C G ML MC 0 1 W b s n := by
  rw [val_main_v55_apply]
  refine Finset.sum_congr rfl fun k _ => ?_
  rw [show lidx_main_v55 (ix3 b ⟨s.val - 256, by omega⟩ n) k = ix3 b ⟨s.val - 256, by omega⟩ k from funext fun a => match a with | ⟨0, _⟩ => rfl | ⟨1, _⟩ => rfl | ⟨2, _⟩ => rfl,
    show ridx_main_v55 (ix3 b ⟨s.val - 256, by omega⟩ n) k = ix2 k n from funext fun a => match a with | ⟨0, _⟩ => rfl | ⟨1, _⟩ => rfl,
    seq_row X C G ML MC b s h]

/-- The reference's result at an element. -/
theorem v136_at (X : FVec Ideal S8x4096x1024 .f32) (C : FVec Ideal S8x256x1024 .f32) (G : FVec Ideal S1024 .f32) (ML : FVec Ideal S8x6x1x1024 .f32)
    (MC : FVec Ideal S6x1024 .f32) (W : FVec Ideal S1024x3072 .f32) (b : Fin 8) (s : Fin 4352) (n : Fin 3072) :
    val_main_v136 (F := Ideal) X C G ML MC W (ix3 b s n) = qkv (proj X C G ML MC 0 1 W b s) s.val n := by
  have hc := ctx_proj X C G ML MC W b s
  have hs := seq_proj X C G ML MC W b s
  have hq := fun (h : ¬ s.val < 256) => q_at X G ML W (proj X C G ML MC 0 1 W b s) b ⟨s.val - 256, by omega⟩
  have hk := fun (h : ¬ s.val < 256) => k_at X G ML W (proj X C G ML MC 0 1 W b s) b ⟨s.val - 256, by omega⟩
  generalize proj X C G ML MC 0 1 W b s = p at hc hs hq hk
  unfold val_main_v136 val_main_v135 val_main_v134 val_main_v133 val_main_v132 val_main_v131 val_main_v130 val_main_v129 val_main_v128 val_main_v127 val_main_v61 val_main_v60 val_main_v54 val_main_v53 val_main_v52 val_main_v51 val_main_v50 val_main_v49 val_main_cst_9
  generalize val_main_v55 (F := Ideal) X G ML W = P at hs hq hk
  generalize val_main_v105 (F := Ideal) X G ML W = Q at hq
  generalize val_main_v126 (F := Ideal) X G ML W = K at hk
  generalize val_main_v48 (F := Ideal) C G MC W = D at hc
  generalize hR : qkv p s.val n = R
  pointwise
  rw [← hR]
  clear hR
  unfold qkv
  by_cases h1 : n.val < 1024
  · by_cases h : s.val < 256
    · simp only [h1, h, hc, rope, ↓reduceDIte, ↓reduceIte]
      exact congrArg (fun x => p x * Ideal.ofBits FTy.f32 0x3E000000#32) (Fin.ext (by dsimp only; omega))
    · simp only [h1, h, ↓reduceDIte, ↓reduceIte]
      rw [hq h _ _ _ n (hs h) (by dsimp only; omega)]
      dsimp only
      rw [Nat.sub_add_cancel (by omega)]
  · by_cases h2 : n.val < 2048
    · have h2' : n.val - 1024 < 1024 := by omega
      by_cases h : s.val < 256
      · simp only [h1, h2, h2', h, hc, rope, ↓reduceDIte, ↓reduceIte]
        exact congrArg p (Fin.ext (by dsimp only; omega))
      · simp only [h1, h2, h2', h, ↓reduceDIte, ↓reduceIte]
        rw [hk h _ _ _ n (hs h) (by dsimp only; omega)]
        dsimp only
        rw [Nat.sub_add_cancel (by omega)]
    · have h2' : ¬ n.val - 1024 < 1024 := by omega
      by_cases h : s.val < 256
      · simp only [h1, h2, h2', h, hc, ↓reduceDIte, ↓reduceIte]
        exact congrArg p (Fin.ext (by dsimp only; omega))
      · simp only [h1, h2, h2', h, hs h, ↓reduceDIte, ↓reduceIte]
        exact congrArg p (Fin.ext (by dsimp only; omega))

end Cert.QkvRefIdeal.Calls

end
-- ==== Proof.PeerQHidden.lean ====
/- The rows that the reference's expert query projection projects: each row's norm with its modulation. -/
module

public import proofs.«01_k».proof.Proof.Rows
public import proofs.«01_k».proof.Proof.Gen.PeerQRefIdeal.Read
public import Idealize.ShloMosaic.Lib.Claim

@[expose] public section

set_option maxRecDepth 16384

noncomputable section

open Idealize.ShloMosaic Idealize.ShloMosaic.TcCoe Idealize.SL.Sem

namespace Cert.PeerQRefIdeal.Hidden

open Cert.PeerQRefIdeal Cert.PeerQRefIdeal.Gen Cert.PeerQRefIdeal.Read Cert.Rows

theorem sum_seq (X : FVec Ideal S8x4096x1024 .f32) (b : Fin 8) (t : Fin 4096) :
    val_main_v1 (F := Ideal) X (ix2 b t) = ∑ d : Fin 1024, X (ix3 b t d) * X (ix3 b t d) := by
  rw [val_main_v1_apply, val_main_cst_apply]
  refine (congrArg₂ (· + ·) (Ideal.ofBits_zero .f32) (Finset.sum_congr rfl fun d _ => ?_)).trans (zero_add _)
  rw [val_main_v0_apply, show idx_main_v1 (ix2 b t) d = ix3 b t d from funext fun a => match a with | ⟨0, _⟩ => rfl | ⟨1, _⟩ => rfl | ⟨2, _⟩ => rfl]
  rfl

theorem rms_seq (X : FVec Ideal S8x4096x1024 .f32) (b : Fin 8) (t : Fin 4096) :
    val_main_v7 (F := Ideal) X (ix3 b t 0) = Ideal.rsqrt (Ideal.div (∑ d : Fin 1024, X (ix3 b t d) * X (ix3 b t d)) (Ideal.ofBits .f32 0x44800000#32)
      + Ideal.ofBits .f32 0x358637BD#32) := by
  rw [val_main_v7_apply, val_main_v6_apply, val_main_v4_apply, val_main_v2_apply, val_main_v3_apply, val_main_v5_apply,
    show idx_main_v2 (ix3 b t 0) = ix2 b t from funext fun a => match a with | ⟨0, _⟩ => rfl | ⟨1, _⟩ => rfl, sum_seq]
  rfl

theorem sum_ctx (C : FVec Ideal S8x256x1024 .f32) (b : Fin 8) (t : Fin 256) :
    val_main_v24 (F := Ideal) C (ix2 b t) = ∑ d : Fin 1024, C (ix3 b t d) * C (ix3 b t d) := by
  rw [val_main_v24_apply, val_main_cst_3_apply]
  refine (congrArg₂ (· + ·) (Ideal.ofBits_zero .f32) (Finset.sum_congr rfl fun d _ => ?_)).trans (zero_add _)
  rw [val_main_v23_apply, show idx_main_v24 (ix2 b t) d = ix3 b t d from funext fun a => match a with | ⟨0, _⟩ => rfl | ⟨1, _⟩ => rfl | ⟨2, _⟩ => rfl]
  rfl

theorem rms_ctx (C : FVec Ideal S8x256x1024 .f32) (b : Fin 8) (t : Fin 256) :
    val_main_v30 (F := Ideal) C (ix3 b t 0) = Ideal.rsqrt (Ideal.div (∑ d : Fin 1024, C (ix3 b t d) * C (ix3 b t d)) (Ideal.ofBits .f32 0x44800000#32)
      + Ideal.ofBits .f32 0x358637BD#32) := by
  rw [val_main_v30_apply, val_main_v29_apply, val_main_v27_apply, val_main_v25_apply, val_main_v26_apply, val_main_v28_apply,
    show idx_main_v25 (ix3 b t 0) = ix2 b t from funext fun a => match a with | ⟨0, _⟩ => rfl | ⟨1, _⟩ => rfl, sum_ctx]
  rfl

theorem gained_seq (X : FVec Ideal S8x4096x1024 .f32) (G : FVec Ideal S1024 .f32) (b : Fin 8) (t : Fin 4096) (k : Fin 1024) :
    val_main_v12 (F := Ideal) X G (ix3 b t k) = X (ix3 b t k) * val_main_v7 (F := Ideal) X (ix3 b t 0) * G (ix1 k) := by
  rw [val_main_v12_apply, val_main_v9_apply, val_main_v8_apply, val_main_v11_apply, val_main_v10_apply,
    show idx_main_v8 (ix3 b t k) = ix3 b t 0 from funext fun a => match a with | ⟨0, _⟩ => rfl | ⟨1, _⟩ => rfl | ⟨2, _⟩ => rfl,
    show idx_main_v10 (idx_main_v11 (ix3 b t k)) = ix1 k from funext fun a => match a with | ⟨0, _⟩ => rfl]
  rfl

theorem gained_ctx (C : FVec Ideal S8x256x1024 .f32) (G : FVec Ideal S1024 .f32) (b : Fin 8) (t : Fin 256) (k : Fin 1024) :
    val_main_v35 (F := Ideal) C G (ix3 b t k) = C (ix3 b t k) * val_main_v30 (F := Ideal) C (ix3 b t 0) * G (ix1 k) := by
  rw [val_main_v35_apply, val_main_v32_apply, val_main_v31_apply, val_main_v34_apply, val_main_v33_apply,
    show idx_main_v31 (ix3 b t k) = ix3 b t 0 from funext fun a => match a with | ⟨0, _⟩ => rfl | ⟨1, _⟩ => rfl | ⟨2, _⟩ => rfl,
    show idx_main_v33 (idx_main_v34 (ix3 b t k)) = ix1 k from funext fun a => match a with | ⟨0, _⟩ => rfl]
  rfl

theorem shift_seq (ML : FVec Ideal S8x6x1x1024 .f32) (b : Fin 8) (k : Fin 1024) :
    val_main_v14 (F := Ideal) ML (ix3 b 0 k) = ML (ix4 b 3 0 k) := by
  pointwise [val_main_v14, val_main_v13]

theorem scale_seq (ML : FVec Ideal S8x6x1x1024 .f32) (b : Fin 8) (k : Fin 1024) :
    val_main_v16 (F := Ideal) ML (ix3 b 0 k) = ML (ix4 b 4 0 k) := by
  pointwise [val_main_v16, val_main_v15]

theorem shift_ctx (MC : FVec Ideal S6x1024 .f32) (k : Fin 1024) : val_main_v37 (F := Ideal) MC (ix1 k) = MC (ix2 3 k) := by
  pointwise [val_main_v37, val_main_v36]

theorem scale_ctx (MC : FVec Ideal S6x1024 .f32) (k : Fin 1024) : val_main_v39 (F := Ideal) MC (ix1 k) = MC (ix2 4 k) := by
  pointwise [val_main_v39, val_main_v38]

/-- The sequence rows, normalised and modulated. -/
theorem seq_at (X : FVec Ideal S8x4096x1024 .f32) (G : FVec Ideal S1024 .f32) (ML : FVec Ideal S8x6x1x1024 .f32) (b : Fin 8) (t : Fin 4096)
    (k : Fin 1024) : val_main_v22 (F := Ideal) X G ML (ix3 b t k)
      = normMod (fun d => X (ix3 b t d)) (fun d => G (ix1 d)) (fun d => ML (ix4 b 3 0 d)) (fun d => ML (ix4 b 4 0 d)) k := by
  rw [val_main_v22_apply, val_main_v20_apply, val_main_v19_apply, val_main_v18_apply, val_main_v17_apply, val_main_v21_apply, gained_seq, rms_seq,
    show idx_main_v19 (ix3 b t k) = ix3 b 0 k from funext fun a => match a with | ⟨0, _⟩ => rfl | ⟨1, _⟩ => rfl | ⟨2, _⟩ => rfl,
    show idx_main_v21 (ix3 b t k) = ix3 b 0 k from funext fun a => match a with | ⟨0, _⟩ => rfl | ⟨1, _⟩ => rfl | ⟨2, _⟩ => rfl,
    shift_seq, scale_seq]
  rfl

/-- The context rows, normalised and modulated. -/
theorem ctx_at (C : FVec Ideal S8x256x1024 .f32) (G : FVec Ideal S1024 .f32) (MC : FVec Ideal S6x1024 .f32) (b : Fin 8) (t : Fin 256)
    (k : Fin 1024) : val_main_v47 (F := Ideal) C G MC (ix3 b t k)
      = normMod (fun d => C (ix3 b t d)) (fun d => G (ix1 d)) (fun d => MC (ix2 3 d)) (fun d => MC (ix2 4 d)) k := by
  rw [val_main_v47_apply, val_main_v44_apply, val_main_v43_apply, val_main_v42_apply, val_main_v41_apply, val_main_v40_apply, val_main_v46_apply,
    val_main_v45_apply, gained_ctx, rms_ctx,
    show idx_main_v42 (idx_main_v43 (ix3 b t k)) = ix1 k from funext fun a => match a with | ⟨0, _⟩ => rfl,
    show idx_main_v45 (idx_main_v46 (ix3 b t k)) = ix1 k from funext fun a => match a with | ⟨0, _⟩ => rfl,
    shift_ctx, scale_ctx]
  rfl

/-- A sequence row as row `s` of the stream. -/
theorem seq_row (X : FVec Ideal S8x4096x1024 .f32) (C : FVec Ideal S8x256x1024 .f32) (G : FVec Ideal S1024 .f32) (ML : FVec Ideal S8x6x1x1024 .f32)
    (MC : FVec Ideal S6x1024 .f32) (b : Fin 8) (s : Fin 4352) (h : ¬ s.val < 256) (k : Fin 1024) :
    val_main_v22 (F := Ideal) X G ML (ix3 b ⟨s.val - 256, by omega⟩ k) = hidden X C G ML MC 3 4 b s k := by
  rw [seq_at]
  refine normMod_congr (fun d => ?_) (fun d => rfl) (fun d => ?_) (fun d => ?_) k
  · rw [row, dif_neg h]
  · exact (if_neg h).symm
  · exact (if_neg h).symm

/-- A context row as row `s` of the stream. -/
theorem ctx_row (X : FVec Ideal S8x4096x1024 .f32) (C : FVec Ideal S8x256x1024 .f32) (G : FVec Ideal S1024 .f32) (ML : FVec Ideal S8x6x1x1024 .f32)
    (MC : FVec Ideal S6x1024 .f32) (b : Fin 8) (s : Fin 4352) (h : s.val < 256) (k : Fin 1024) :
    val_main_v47 (F := Ideal) C G MC (ix3 b ⟨s.val, h⟩ k) = hidden X C G ML MC 3 4 b s k := by
  rw [ctx_at]
  refine normMod_congr (fun d => ?_) (fun d => rfl) (fun d => ?_) (fun d => ?_) k
  · rw [row, dif_pos h]
  · exact (if_pos h).symm
  · exact (if_pos h).symm

end Cert.PeerQRefIdeal.Hidden

end
-- ==== Proof.PeerQ.lean ====
/- The expert query projection: every grid point writes 256 normalised rows and their projections, as the reference does. -/
module

public import proofs.«01_k».proof.Proof.Rows
public import proofs.«01_k».proof.Proof.PeerQHidden
public import proofs.«01_k».proof.Proof.Gen.PeerQIdeal.Value
public import Idealize.ShloMosaic.Lib.Claim

@[expose] public section

set_option maxRecDepth 16384

noncomputable section

open Idealize.ShloMosaic Idealize.ShloMosaic.TcCoe Idealize.SL.Sem

namespace Cert.PeerQIdeal.Calls

open Cert.PeerQIdeal Cert.PeerQIdeal.Gen Cert.Rows

variable (m : (ℓ : Loc nD τ sig) → Buf (Elt Ideal) ℓ)

theorem N_lt (t : Fin cfg0.N) : t.val < 136 := lt_of_lt_of_eq t.isLt (by decide +kernel : cfg0.N = 136)

theorem idx : ∀ t : Fin cfg0.N, win0_0.index t = ![t.val / 17, t.val % 17, 0] ∧ win0_1.index t = ![0, 0]
    ∧ win0_2.index t = ![t.val / 17, min (t.val % 17) 1, 0, 0] ∧ win0_3.index t = ![0, 0]
    ∧ win0_4.index t = ![t.val / 17, t.val % 17, 0] ∧ win0_5.index t = ![t.val / 17, t.val % 17, 0] :=
  (by decide +kernel : ∀ t : Fin grid0.N, _)

theorem pay_hidden (x0 : FVec Ideal S1x256x1024 .f32) (x1 : FVec Ideal S1x1024 .f32) (x2 : FVec Ideal S1x1x2x1024 .f32) (r : Fin 256) (k : Fin 1024) :
    k0_pay2 (F := Ideal) x0 x1 x2 (ix2 r k) = normMod (fun d => x0 (ix3 0 r d)) (fun d => x1 (ix2 0 d)) (fun d => x2 (ix4 0 0 0 d)) (fun d => x2 (ix4 0 0 1 d)) k := by
  unfold normMod
  pointwise [k0_pay2]

theorem pay_proj (x0 : FVec Ideal S1x256x1024 .f32) (x1 : FVec Ideal S1x1024 .f32) (x2 : FVec Ideal S1x1x2x1024 .f32) (x3 : FVec Ideal S1024x2048 .bf16)
    (r : Fin 256) (n : Fin 2048) : k0_pay4 (F := Ideal) x0 x1 x2 x3 (ix2 r n)
      = ∑ k, normMod (fun d => x0 (ix3 0 r d)) (fun d => x1 (ix2 0 d)) (fun d => x2 (ix4 0 0 0 d)) (fun d => x2 (ix4 0 0 1 d)) k * x3 (ix2 k n) := by
  simp only [← pay_hidden]
  pointwise [k0_pay4]

theorem weight_read (c : Dev nD) (k : Fin 1024) (n : Fin 2048) :
    (show FVec Ideal S1024x2048 .bf16 from V m c main_v12) (ix2 k n)
      = (show FVec Ideal S1024x2048 .f32 from m ((c : Thread nD τ).loc main_arg5)) (ix2 k n) := by
  entry_read
  pointwise

theorem stream_read (c : Dev nD) (b : Fin 8) (s : Fin 4352) (k : Fin 1024) :
    (show FVec Ideal S8x4352x1024 .f32 from V m c main_v0) (ix3 b s k)
      = row (m ((c : Thread nD τ).loc main_arg0)) (m ((c : Thread nD τ).loc main_arg1)) b s k := by
  entry_read
  pointwise [row]

theorem gain_read (c : Dev nD) (k : Fin 1024) :
    (show FVec Ideal S1x1024 .f32 from V m c main_v13) (ix2 0 k)
      = (show FVec Ideal S1024 .f32 from m ((c : Thread nD τ).loc main_arg2)) (ix1 k) := by
  entry_read
  pointwise

theorem mod_ctx (c : Dev nD) (b : Fin 8) (j : Fin 2) (k : Fin 1024) :
    (show FVec Ideal S8x2x2x1024 .f32 from V m c main_v11) (ix4 b 0 j k)
      = (show FVec Ideal S6x1024 .f32 from m ((c : Thread nD τ).loc main_arg4)) (ix2 ⟨3 + j.val, by omega⟩ k) := by
  entry_read
  pointwise

theorem mod_seq (c : Dev nD) (b : Fin 8) (j : Fin 2) (k : Fin 1024) :
    (show FVec Ideal S8x2x2x1024 .f32 from V m c main_v11) (ix4 b 1 j k)
      = (show FVec Ideal S8x6x1x1024 .f32 from m ((c : Thread nD τ).loc main_arg3)) (ix4 b ⟨3 + j.val, by omega⟩ 0 k) := by
  entry_read
  pointwise

/-- The modulation vectors of grid point `t`. -/
theorem mod_read (c : Dev nD) (t : Fin cfg0.N) (r : Fin 256) (j : Fin 2) (n : Fin 1024) :
    (show FVec Ideal S1x1x2x1024 .f32 from iblk m c 2 t) (ix4 0 0 j n)
      = modOf (m ((c : Thread nD τ).loc main_arg3)) (m ((c : Thread nD τ).loc main_arg4))
          ⟨t.val / 17, by have := N_lt t; omega⟩ ⟨t.val % 17 * 256 + r.val, by omega⟩ ⟨3 + j.val, by omega⟩ n := by
  have ht := N_lt t
  by_cases h : t.val % 17 = 0
  · rw [modOf, if_pos (by dsimp only; omega)]
    refine Eq.trans ?_ (mod_ctx m c ⟨t.val / 17, by omega⟩ j n)
    blk_ext [iblk, idx t]
  · rw [modOf, if_neg (by dsimp only; omega)]
    refine Eq.trans ?_ (mod_seq m c ⟨t.val / 17, by omega⟩ j n)
    blk_ext [iblk, idx t]

/-- The row a grid point norms, as a row of the stream. -/
theorem hidden_read (c : Dev nD) (t : Fin cfg0.N) (r : Fin 256) (k : Fin 1024) :
    normMod (fun d => (show FVec Ideal S1x256x1024 .f32 from iblk m c 0 t) (ix3 0 r d)) (fun d => (show FVec Ideal S1x1024 .f32 from iblk m c 1 t) (ix2 0 d))
        (fun d => (show FVec Ideal S1x1x2x1024 .f32 from iblk m c 2 t) (ix4 0 0 0 d)) (fun d => (show FVec Ideal S1x1x2x1024 .f32 from iblk m c 2 t) (ix4 0 0 1 d)) k
      = hidden (m ((c : Thread nD τ).loc main_arg0)) (m ((c : Thread nD τ).loc main_arg1)) (m ((c : Thread nD τ).loc main_arg2))
          (m ((c : Thread nD τ).loc main_arg3)) (m ((c : Thread nD τ).loc main_arg4)) 3 4
          ⟨t.val / 17, by have := N_lt t; omega⟩ ⟨t.val % 17 * 256 + r.val, by omega⟩ k := by
  refine normMod_congr (fun d => ?_) (fun d => ?_) (fun d => mod_read m c t r 0 d) (fun d => mod_read m c t r 1 d) k
  · refine Eq.trans ?_ (stream_read m c _ _ _)
    blk_ext [iblk, idx t]
  · refine Eq.trans ?_ (gain_read m c _)
    blk_ext [iblk, idx t]

/-- A grid point's projection of row `r` to column `n`. -/
theorem proj_read (c : Dev nD) (t : Fin cfg0.N) (r : Fin 256) (n : Fin 2048) :
    k0_pay4 (F := Ideal) (iblk m c 0 t) (iblk m c 1 t) (iblk m c 2 t) (iblk m c 3 t) (ix2 r n)
      = proj (m ((c : Thread nD τ).loc main_arg0)) (m ((c : Thread nD τ).loc main_arg1)) (m ((c : Thread nD τ).loc main_arg2))
          (m ((c : Thread nD τ).loc main_arg3)) (m ((c : Thread nD τ).loc main_arg4)) 3 4 (m ((c : Thread nD τ).loc main_arg5))
          ⟨t.val / 17, by have := N_lt t; omega⟩ ⟨t.val % 17 * 256 + r.val, by omega⟩ n := by
  refine (pay_proj _ _ _ _ r n).trans (Finset.sum_congr rfl fun k _ => congrArg₂ (· * ·) (hidden_read m c t r k) ?_)
  refine Eq.trans ?_ (weight_read m c k n)
  blk_ext [iblk, idx t]

/-- The first result's element at an index. -/
def hiddenAt (c : Dev nD) (i : S8x4352x1024.Idx) : EReal :=
  hidden (m ((c : Thread nD τ).loc main_arg0)) (m ((c : Thread nD τ).loc main_arg1)) (m ((c : Thread nD τ).loc main_arg2))
    (m ((c : Thread nD τ).loc main_arg3)) (m ((c : Thread nD τ).loc main_arg4)) 3 4 (i 0) (i 1) (i 2)

/-- The second result's element at an index. -/
def queryAt (c : Dev nD) (i : S8x4352x2048.Idx) : EReal :=
  proj (m ((c : Thread nD τ).loc main_arg0)) (m ((c : Thread nD τ).loc main_arg1)) (m ((c : Thread nD τ).loc main_arg2))
    (m ((c : Thread nD τ).loc main_arg3)) (m ((c : Thread nD τ).loc main_arg4)) 3 4 (m ((c : Thread nD τ).loc main_arg5)) (i 0) (i 1) (i 2)

theorem point_hidden (c : Dev nD) (t : Fin cfg0.N) (r : Fin 256) (n : Fin 1024) :
    k0_pay3 (F := Ideal) (iblk m c 0 t) (iblk m c 1 t) (iblk m c 2 t) (ix3 0 r n)
      = hiddenAt m c (ix3 ⟨t.val / 17, by have := N_lt t; omega⟩ ⟨t.val % 17 * 256 + r.val, by omega⟩ n) := by
  refine Eq.trans ?_ ((pay_hidden _ _ _ r n).trans (hidden_read m c t r n))
  pointwise [k0_pay3]

theorem point_query (c : Dev nD) (t : Fin cfg0.N) (r : Fin 256) (n : Fin 2048) :
    k0_pay1 (F := Ideal) (k0_pay4 (iblk m c 0 t) (iblk m c 1 t) (iblk m c 2 t) (iblk m c 3 t)) (ix3 0 r n)
      = queryAt m c (ix3 ⟨t.val / 17, by have := N_lt t; omega⟩ ⟨t.val % 17 * 256 + r.val, by omega⟩ n) := by
  refine Eq.trans ?_ (proj_read m c t r n)
  pointwise [k0_pay1]

/-- The first result array after the run. -/
theorem final_hidden (c : Dev nD) : (dats m 0 c).arrAt 4 (cfgs 0).N = hiddenAt m c := by
  refine (dats m 0 c).arrAt_eq_of_covers 4 _ (by decide +kernel) fun t hf y => ?_
  blk_simp
  rw [after0_4]
  have ht := N_lt t
  have hy : (y : S1x256x1024.Idx) = ix3 0 (y 1) (y 2) := by
    refine (eq_ix3 (y : S1x256x1024.Idx)).trans ?_
    rw [show y 0 = (0 : Fin 1) from Subsingleton.elim (α := Fin 1) _ _]
    rfl
  frame_out
  refine (congrArg _ hy).trans ((point_hidden m c t (y 1) (y 2)).trans (congrArg _ ?_))
  blk_ext [idx t]

/-- The second result array after the run. -/
theorem final_query (c : Dev nD) : (dats m 0 c).arrAt 5 (cfgs 0).N = queryAt m c := by
  refine (dats m 0 c).arrAt_eq_of_covers 5 _ (by decide +kernel) fun t hf y => ?_
  blk_simp
  rw [after0_5]
  have ht := N_lt t
  have hy : (y : S1x256x2048.Idx) = ix3 0 (y 1) (y 2) := by
    refine (eq_ix3 (y : S1x256x2048.Idx)).trans ?_
    rw [show y 0 = (0 : Fin 1) from Subsingleton.elim (α := Fin 1) _ _]
    rfl
  frame_out
  refine (congrArg _ hy).trans ((point_query m c t (y 1) (y 2)).trans (congrArg _ ?_))
  blk_ext [idx t]

end Cert.PeerQIdeal.Calls

namespace Cert.PeerQRefIdeal.Calls

open Cert.PeerQRefIdeal Cert.PeerQRefIdeal.Gen Cert.PeerQRefIdeal.Read Cert.PeerQRefIdeal.Hidden Cert.Rows

/-- The reference's first result at an element. -/
theorem v48_at (X : FVec Ideal S8x4096x1024 .f32) (C : FVec Ideal S8x256x1024 .f32) (G : FVec Ideal S1024 .f32) (ML : FVec Ideal S8x6x1x1024 .f32)
    (MC : FVec Ideal S6x1024 .f32) (b : Fin 8) (s : Fin 4352) (k : Fin 1024) :
    val_main_v48 (F := Ideal) X C G ML MC (ix3 b s k) = hidden X C G ML MC 3 4 b s k := by
  pointwise [val_main_v48]
  by_cases h : s.val < 256
  · rw [dif_pos h, ctx_row X C G ML MC b s h]
  · rw [dif_neg h, seq_row X C G ML MC b s h]

/-- The reference's second result at an element. -/
theorem v49_at (X : FVec Ideal S8x4096x1024 .f32) (C : FVec Ideal S8x256x1024 .f32) (G : FVec Ideal S1024 .f32) (ML : FVec Ideal S8x6x1x1024 .f32)
    (MC : FVec Ideal S6x1024 .f32) (W : FVec Ideal S1024x2048 .f32) (b : Fin 8) (s : Fin 4352) (n : Fin 2048) :
    val_main_v49 (F := Ideal) X C G ML MC W (ix3 b s n) = proj X C G ML MC 3 4 W b s n := by
  rw [val_main_v49_apply]
  refine Finset.sum_congr rfl fun k _ => ?_
  rw [show lidx_main_v49 (ix3 b s n) k = ix3 b s k from funext fun a => match a with | ⟨0, _⟩ => rfl | ⟨1, _⟩ => rfl | ⟨2, _⟩ => rfl,
    show ridx_main_v49 (ix3 b s n) k = ix2 k n from funext fun a => match a with | ⟨0, _⟩ => rfl | ⟨1, _⟩ => rfl, v48_at]

end Cert.PeerQRefIdeal.Calls

end
-- ==== Proof.InProjHidden.lean ====
/- The rows that the reference's input projection projects: each row's norm with its modulation. -/
module

public import proofs.«01_k».proof.Proof.Rows
public import proofs.«01_k».proof.Proof.Gen.InProjRefIdeal.Read
public import Idealize.ShloMosaic.Lib.Claim

@[expose] public section

set_option maxRecDepth 16384

noncomputable section

open Idealize.ShloMosaic Idealize.ShloMosaic.TcCoe Idealize.SL.Sem

namespace Cert.InProjRefIdeal.Hidden

open Cert.InProjRefIdeal Cert.InProjRefIdeal.Gen Cert.InProjRefIdeal.Read Cert.Rows

theorem sum_seq (X : FVec Ideal S8x4096x1024 .f32) (b : Fin 8) (t : Fin 4096) :
    val_main_v1 (F := Ideal) X (ix2 b t) = ∑ d : Fin 1024, X (ix3 b t d) * X (ix3 b t d) := by
  rw [val_main_v1_apply, val_main_cst_apply]
  refine (congrArg₂ (· + ·) (Ideal.ofBits_zero .f32) (Finset.sum_congr rfl fun d _ => ?_)).trans (zero_add _)
  rw [val_main_v0_apply, show idx_main_v1 (ix2 b t) d = ix3 b t d from funext fun a => match a with | ⟨0, _⟩ => rfl | ⟨1, _⟩ => rfl | ⟨2, _⟩ => rfl]
  rfl

theorem rms_seq (X : FVec Ideal S8x4096x1024 .f32) (b : Fin 8) (t : Fin 4096) :
    val_main_v7 (F := Ideal) X (ix3 b t 0) = Ideal.rsqrt (Ideal.div (∑ d : Fin 1024, X (ix3 b t d) * X (ix3 b t d)) (Ideal.ofBits .f32 0x44800000#32)
      + Ideal.ofBits .f32 0x358637BD#32) := by
  rw [val_main_v7_apply, val_main_v6_apply, val_main_v4_apply, val_main_v2_apply, val_main_v3_apply, val_main_v5_apply,
    show idx_main_v2 (ix3 b t 0) = ix2 b t from funext fun a => match a with | ⟨0, _⟩ => rfl | ⟨1, _⟩ => rfl, sum_seq]
  rfl

theorem sum_ctx (C : FVec Ideal S8x256x1024 .f32) (b : Fin 8) (t : Fin 256) :
    val_main_v24 (F := Ideal) C (ix2 b t) = ∑ d : Fin 1024, C (ix3 b t d) * C (ix3 b t d) := by
  rw [val_main_v24_apply, val_main_cst_3_apply]
  refine (congrArg₂ (· + ·) (Ideal.ofBits_zero .f32) (Finset.sum_congr rfl fun d _ => ?_)).trans (zero_add _)
  rw [val_main_v23_apply, show idx_main_v24 (ix2 b t) d = ix3 b t d from funext fun a => match a with | ⟨0, _⟩ => rfl | ⟨1, _⟩ => rfl | ⟨2, _⟩ => rfl]
  rfl

theorem rms_ctx (C : FVec Ideal S8x256x1024 .f32) (b : Fin 8) (t : Fin 256) :
    val_main_v30 (F := Ideal) C (ix3 b t 0) = Ideal.rsqrt (Ideal.div (∑ d : Fin 1024, C (ix3 b t d) * C (ix3 b t d)) (Ideal.ofBits .f32 0x44800000#32)
      + Ideal.ofBits .f32 0x358637BD#32) := by
  rw [val_main_v30_apply, val_main_v29_apply, val_main_v27_apply, val_main_v25_apply, val_main_v26_apply, val_main_v28_apply,
    show idx_main_v25 (ix3 b t 0) = ix2 b t from funext fun a => match a with | ⟨0, _⟩ => rfl | ⟨1, _⟩ => rfl, sum_ctx]
  rfl

theorem gained_seq (X : FVec Ideal S8x4096x1024 .f32) (G : FVec Ideal S1024 .f32) (b : Fin 8) (t : Fin 4096) (k : Fin 1024) :
    val_main_v12 (F := Ideal) X G (ix3 b t k) = X (ix3 b t k) * val_main_v7 (F := Ideal) X (ix3 b t 0) * G (ix1 k) := by
  rw [val_main_v12_apply, val_main_v9_apply, val_main_v8_apply, val_main_v11_apply, val_main_v10_apply,
    show idx_main_v8 (ix3 b t k) = ix3 b t 0 from funext fun a => match a with | ⟨0, _⟩ => rfl | ⟨1, _⟩ => rfl | ⟨2, _⟩ => rfl,
    show idx_main_v10 (idx_main_v11 (ix3 b t k)) = ix1 k from funext fun a => match a with | ⟨0, _⟩ => rfl]
  rfl

theorem gained_ctx (C : FVec Ideal S8x256x1024 .f32) (G : FVec Ideal S1024 .f32) (b : Fin 8) (t : Fin 256) (k : Fin 1024) :
    val_main_v35 (F := Ideal) C G (ix3 b t k) = C (ix3 b t k) * val_main_v30 (F := Ideal) C (ix3 b t 0) * G (ix1 k) := by
  rw [val_main_v35_apply, val_main_v32_apply, val_main_v31_apply, val_main_v34_apply, val_main_v33_apply,
    show idx_main_v31 (ix3 b t k) = ix3 b t 0 from funext fun a => match a with | ⟨0, _⟩ => rfl | ⟨1, _⟩ => rfl | ⟨2, _⟩ => rfl,
    show idx_main_v33 (idx_main_v34 (ix3 b t k)) = ix1 k from funext fun a => match a with | ⟨0, _⟩ => rfl]
  rfl

theorem shift_seq (ML : FVec Ideal S8x6x1x1024 .f32) (b : Fin 8) (k : Fin 1024) :
    val_main_v14 (F := Ideal) ML (ix3 b 0 k) = ML (ix4 b 0 0 k) := by
  pointwise [val_main_v14, val_main_v13]

theorem scale_seq (ML : FVec Ideal S8x6x1x1024 .f32) (b : Fin 8) (k : Fin 1024) :
    val_main_v16 (F := Ideal) ML (ix3 b 0 k) = ML (ix4 b 1 0 k) := by
  pointwise [val_main_v16, val_main_v15]

theorem shift_ctx (MC : FVec Ideal S6x1024 .f32) (k : Fin 1024) : val_main_v37 (F := Ideal) MC (ix1 k) = MC (ix2 0 k) := by
  pointwise [val_main_v37, val_main_v36]

theorem scale_ctx (MC : FVec Ideal S6x1024 .f32) (k : Fin 1024) : val_main_v39 (F := Ideal) MC (ix1 k) = MC (ix2 1 k) := by
  pointwise [val_main_v39, val_main_v38]

/-- The sequence rows, normalised and modulated. -/
theorem seq_at (X : FVec Ideal S8x4096x1024 .f32) (G : FVec Ideal S1024 .f32) (ML : FVec Ideal S8x6x1x1024 .f32) (b : Fin 8) (t : Fin 4096)
    (k : Fin 1024) : val_main_v22 (F := Ideal) X G ML (ix3 b t k)
      = normMod (fun d => X (ix3 b t d)) (fun d => G (ix1 d)) (fun d => ML (ix4 b 0 0 d)) (fun d => ML (ix4 b 1 0 d)) k := by
  rw [val_main_v22_apply, val_main_v20_apply, val_main_v19_apply, val_main_v18_apply, val_main_v17_apply, val_main_v21_apply, gained_seq, rms_seq,
    show idx_main_v19 (ix3 b t k) = ix3 b 0 k from funext fun a => match a with | ⟨0, _⟩ => rfl | ⟨1, _⟩ => rfl | ⟨2, _⟩ => rfl,
    show idx_main_v21 (ix3 b t k) = ix3 b 0 k from funext fun a => match a with | ⟨0, _⟩ => rfl | ⟨1, _⟩ => rfl | ⟨2, _⟩ => rfl,
    shift_seq, scale_seq]
  rfl

/-- The context rows, normalised and modulated. -/
theorem ctx_at (C : FVec Ideal S8x256x1024 .f32) (G : FVec Ideal S1024 .f32) (MC : FVec Ideal S6x1024 .f32) (b : Fin 8) (t : Fin 256)
    (k : Fin 1024) : val_main_v47 (F := Ideal) C G MC (ix3 b t k)
      = normMod (fun d => C (ix3 b t d)) (fun d => G (ix1 d)) (fun d => MC (ix2 0 d)) (fun d => MC (ix2 1 d)) k := by
  rw [val_main_v47_apply, val_main_v44_apply, val_main_v43_apply, val_main_v42_apply, val_main_v41_apply, val_main_v40_apply, val_main_v46_apply,
    val_main_v45_apply, gained_ctx, rms_ctx,
    show idx_main_v42 (idx_main_v43 (ix3 b t k)) = ix1 k from funext fun a => match a with | ⟨0, _⟩ => rfl,
    show idx_main_v45 (idx_main_v46 (ix3 b t k)) = ix1 k from funext fun a => match a with | ⟨0, _⟩ => rfl,
    shift_ctx, scale_ctx]
  rfl

/-- A sequence row as row `s` of the stream. -/
theorem seq_row (X : FVec Ideal S8x4096x1024 .f32) (C : FVec Ideal S8x256x1024 .f32) (G : FVec Ideal S1024 .f32) (ML : FVec Ideal S8x6x1x1024 .f32)
    (MC : FVec Ideal S6x1024 .f32) (b : Fin 8) (s : Fin 4352) (h : ¬ s.val < 256) (k : Fin 1024) :
    val_main_v22 (F := Ideal) X G ML (ix3 b ⟨s.val - 256, by omega⟩ k) = hidden X C G ML MC 0 1 b s k := by
  rw [seq_at]
  refine normMod_congr (fun d => ?_) (fun d => rfl) (fun d => ?_) (fun d => ?_) k
  · rw [row, dif_neg h]
  · exact (if_neg h).symm
  · exact (if_neg h).symm

/-- A context row as row `s` of the stream. -/
theorem ctx_row (X : FVec Ideal S8x4096x1024 .f32) (C : FVec Ideal S8x256x1024 .f32) (G : FVec Ideal S1024 .f32) (ML : FVec Ideal S8x6x1x1024 .f32)
    (MC : FVec Ideal S6x1024 .f32) (b : Fin 8) (s : Fin 4352) (h : s.val < 256) (k : Fin 1024) :
    val_main_v47 (F := Ideal) C G MC (ix3 b ⟨s.val, h⟩ k) = hidden X C G ML MC 0 1 b s k := by
  rw [ctx_at]
  refine normMod_congr (fun d => ?_) (fun d => rfl) (fun d => ?_) (fun d => ?_) k
  · rw [row, dif_pos h]
  · exact (if_pos h).symm
  · exact (if_pos h).symm

end Cert.InProjRefIdeal.Hidden

end
-- ==== Proof.InProj.lean ====
/- The input projection: every grid point writes 256 rows of the projection by the padded weight matrix; what stays is the reference's. -/
module

public import proofs.«01_k».proof.Proof.Rows
public import proofs.«01_k».proof.Proof.InProjHidden
public import proofs.«01_k».proof.Proof.Gen.InProjIdeal.Frame
public import Idealize.ShloMosaic.Lib.Pipeline.ValueKit
public import Idealize.ShloMosaic.Lib.KernelVsHost
public import Idealize.ShloMosaic.Lib.Claim

@[expose] public section

set_option maxRecDepth 16384

noncomputable section

open Idealize.ShloMosaic Idealize.ShloMosaic.TcCoe Idealize.SL.Sem

namespace Cert.InProjIdeal.Calls

open Cert.InProjIdeal Cert.InProjIdeal.Gen Cert.Rows

variable (m : (ℓ : Loc nD τ sig) → Buf (Elt Ideal) ℓ)

theorem N_lt (t : Fin cfg0.N) : t.val < 136 := lt_of_lt_of_eq t.isLt (by decide +kernel : cfg0.N = 136)

theorem idx : ∀ t : Fin cfg0.N, win0_0.index t = ![t.val / 17, t.val % 17, 0] ∧ win0_1.index t = ![0, 0]
    ∧ win0_2.index t = ![t.val / 17, min (t.val % 17) 1, 0, 0] ∧ win0_3.index t = ![0, 0]
    ∧ win0_4.index t = ![t.val / 17, t.val % 17, 0] :=
  (by decide +kernel : ∀ t : Fin grid0.N, _)

theorem pay_proj (x0 : FVec Ideal S1x256x1024 .f32) (x1 : FVec Ideal S1x1024 .f32) (x2 : FVec Ideal S1x1x2x1024 .f32) (x3 : FVec Ideal S1024x3712 .bf16)
    (r : Fin 256) (n : Fin 3712) : k0_pay1 (F := Ideal) x0 x1 x2 x3 (ix3 0 r n)
      = ∑ k, normMod (fun d => x0 (ix3 0 r d)) (fun d => x1 (ix2 0 d)) (fun d => x2 (ix4 0 0 0 d)) (fun d => x2 (ix4 0 0 1 d)) k * x3 (ix2 k n) := by
  unfold normMod
  pointwise [k0_pay1]

theorem stream_read (c : Dev nD) (b : Fin 8) (s : Fin 4352) (k : Fin 1024) :
    (show FVec Ideal S8x4352x1024 .f32 from V m c main_v0) (ix3 b s k)
      = row (m ((c : Thread nD τ).loc main_arg0)) (m ((c : Thread nD τ).loc main_arg1)) b s k := by
  simp only [V, V0, hostOps0, hostOps0_1, hostOps0_2, List.flatten_cons, List.flatten_nil, List.append_nil, List.cons_append, List.nil_append]
  entry_read
  pointwise [row]

theorem gain_read (c : Dev nD) (k : Fin 1024) :
    (show FVec Ideal S1x1024 .f32 from V m c main_v14) (ix2 0 k)
      = (show FVec Ideal S1024 .f32 from m ((c : Thread nD τ).loc main_arg2)) (ix1 k) := by
  simp only [V, V0, hostOps0, hostOps0_1, hostOps0_2, List.flatten_cons, List.flatten_nil, List.append_nil, List.cons_append, List.nil_append]
  entry_read
  pointwise

theorem mod_ctx (c : Dev nD) (b : Fin 8) (j : Fin 2) (k : Fin 1024) :
    (show FVec Ideal S8x2x2x1024 .f32 from V m c main_v13) (ix4 b 0 j k)
      = (show FVec Ideal S6x1024 .f32 from m ((c : Thread nD τ).loc main_arg4)) (ix2 ⟨0 + j.val, by omega⟩ k) := by
  simp only [V, V0, hostOps0, hostOps0_1, hostOps0_2, List.flatten_cons, List.flatten_nil, List.append_nil, List.cons_append, List.nil_append]
  entry_read
  pointwise

theorem mod_seq (c : Dev nD) (b : Fin 8) (j : Fin 2) (k : Fin 1024) :
    (show FVec Ideal S8x2x2x1024 .f32 from V m c main_v13) (ix4 b 1 j k)
      = (show FVec Ideal S8x6x1x1024 .f32 from m ((c : Thread nD τ).loc main_arg3)) (ix4 b ⟨0 + j.val, by omega⟩ 0 k) := by
  simp only [V, V0, hostOps0, hostOps0_1, hostOps0_2, List.flatten_cons, List.flatten_nil, List.append_nil, List.cons_append, List.nil_append]
  entry_read
  pointwise

/-- The modulation vectors of grid point `t`. -/
theorem mod_read (c : Dev nD) (t : Fin cfg0.N) (r : Fin 256) (j : Fin 2) (n : Fin 1024) :
    (show FVec Ideal S1x1x2x1024 .f32 from iblk m c 2 t) (ix4 0 0 j n)
      = modOf (m ((c : Thread nD τ).loc main_arg3)) (m ((c : Thread nD τ).loc main_arg4))
          ⟨t.val / 17, by have := N_lt t; omega⟩ ⟨t.val % 17 * 256 + r.val, by omega⟩ ⟨0 + j.val, by omega⟩ n := by
  have ht := N_lt t
  by_cases h : t.val % 17 = 0
  · rw [modOf, if_pos (by dsimp only; omega)]
    refine Eq.trans ?_ (mod_ctx m c ⟨t.val / 17, by omega⟩ j n)
    blk_ext [iblk, idx t]
  · rw [modOf, if_neg (by dsimp only; omega)]
    refine Eq.trans ?_ (mod_seq m c ⟨t.val / 17, by omega⟩ j n)
    blk_ext [iblk, idx t]

/-- The row a grid point norms, as a row of the stream. -/
theorem hidden_read (c : Dev nD) (t : Fin cfg0.N) (r : Fin 256) (k : Fin 1024) :
    normMod (fun d => (show FVec Ideal S1x256x1024 .f32 from iblk m c 0 t) (ix3 0 r d)) (fun d => (show FVec Ideal S1x1024 .f32 from iblk m c 1 t) (ix2 0 d))
        (fun d => (show FVec Ideal S1x1x2x1024 .f32 from iblk m c 2 t) (ix4 0 0 0 d)) (fun d => (show FVec Ideal S1x1x2x1024 .f32 from iblk m c 2 t) (ix4 0 0 1 d)) k
      = hidden (m ((c : Thread nD τ).loc main_arg0)) (m ((c : Thread nD τ).loc main_arg1)) (m ((c : Thread nD τ).loc main_arg2))
          (m ((c : Thread nD τ).loc main_arg3)) (m ((c : Thread nD τ).loc main_arg4)) 0 1
          ⟨t.val / 17, by have := N_lt t; omega⟩ ⟨t.val % 17 * 256 + r.val, by omega⟩ k := by
  refine normMod_congr (fun d => ?_) (fun d => ?_) (fun d => mod_read m c t r 0 d) (fun d => mod_read m c t r 1 d) k
  · refine Eq.trans ?_ (stream_read m c _ _ _)
    blk_ext [iblk, idx t]
  · refine Eq.trans ?_ (gain_read m c _)
    blk_ext [iblk, idx t]

/-- The padded weight matrix has the weight matrix's columns before the padding. -/
theorem weight_read (c : Dev nD) (k : Fin 1024) (n : Fin 3712) (h : n.val < 3600) :
    (show FVec Ideal S1024x3712 .bf16 from V m c main_v12) (ix2 k n)
      = (show FVec Ideal S1024x3600 .f32 from m ((c : Thread nD τ).loc main_arg5)) (ix2 k ⟨n.val, h⟩) := by
  simp only [V, V0, hostOps0, hostOps0_1, hostOps0_2, List.flatten_cons, List.flatten_nil, List.append_nil, List.cons_append, List.nil_append]
  entry_read
  pointwise
  exact pad_apply_of_inside ![0, 0] ![0, 112] ![0, 0] (show FVec Ideal S1024x3600 .f32 from m ((c : Thread nD τ).loc main_arg5))
    (show FVec Ideal S_ .f32 from sitofp .f32 (constantI S_ 32 0#32)) pads_S1024x3600_S1024x3712_000_01120 h_S_ (ix2 k n) (ix2 k ⟨n.val, h⟩)
    fun a => match a with
      | ⟨0, _⟩ => (Nat.zero_add _).symm.trans (congrArg (0 + ·) (Nat.mul_one _).symm)
      | ⟨1, _⟩ => (Nat.zero_add _).symm.trans (congrArg (0 + ·) (Nat.mul_one _).symm)

/-- The kernel's padded result at an index. -/
def paddedAt (c : Dev nD) (i : S8x4352x3712.Idx) : EReal :=
  proj (m ((c : Thread nD τ).loc main_arg0)) (m ((c : Thread nD τ).loc main_arg1)) (m ((c : Thread nD τ).loc main_arg2))
    (m ((c : Thread nD τ).loc main_arg3)) (m ((c : Thread nD τ).loc main_arg4)) 0 1 (show FVec Ideal S1024x3712 .bf16 from V m c main_v12) (i 0) (i 1) (i 2)

theorem weight_block (c : Dev nD) (t : Fin cfg0.N) (k : Fin 1024) (n : Fin 3712) :
    (show FVec Ideal S1024x3712 .bf16 from iblk m c 3 t) (ix2 k n) = (show FVec Ideal S1024x3712 .bf16 from V m c main_v12) (ix2 k n) := by
  blk_ext [iblk, idx t]

theorem point (c : Dev nD) (t : Fin cfg0.N) (r : Fin 256) (n : Fin 3712) :
    k0_pay1 (F := Ideal) (iblk m c 0 t) (iblk m c 1 t) (iblk m c 2 t) (iblk m c 3 t) (ix3 0 r n)
      = paddedAt m c (ix3 ⟨t.val / 17, by have := N_lt t; omega⟩ ⟨t.val % 17 * 256 + r.val, by omega⟩ n) := by
  refine (pay_proj _ _ _ _ r n).trans (Finset.sum_congr rfl fun k _ => congrArg₂ (· * ·) (hidden_read m c t r k) (weight_block m c t k n))

/-- The padded result array after the region. -/
theorem final (c : Dev nD) : (dats m 0 c).arrAt 4 (cfgs 0).N = paddedAt m c := by
  refine (dats m 0 c).arrAt_eq_of_covers 4 _ (by decide +kernel) fun t hf y => ?_
  blk_simp
  rw [after0_4]
  have ht := N_lt t
  have hy : (y : S1x256x3712.Idx) = ix3 0 (y 1) (y 2) := by
    refine (eq_ix3 (y : S1x256x3712.Idx)).trans ?_
    rw [show y 0 = (0 : Fin 1) from Subsingleton.elim (α := Fin 1) _ _]
    rfl
  frame_out
  refine (congrArg _ hy).trans ((point m c t (y 1) (y 2)).trans (congrArg _ ?_))
  blk_ext [idx t]

/-- The result's element at an index: the padded one's, before the padding. -/
theorem padded_eq (c : Dev nD) (b : Fin 8) (s : Fin 4352) (n : Fin 3600) :
    paddedAt m c (ix3 b s (⟨n.val, by omega⟩ : Fin 3712))
      = proj (m ((c : Thread nD τ).loc main_arg0)) (m ((c : Thread nD τ).loc main_arg1)) (m ((c : Thread nD τ).loc main_arg2))
          (m ((c : Thread nD τ).loc main_arg3)) (m ((c : Thread nD τ).loc main_arg4)) 0 1 (m ((c : Thread nD τ).loc main_arg5)) b s n := by
  unfold paddedAt proj
  exact Finset.sum_congr rfl fun k _ => congrArg₂ (· * ·) rfl (weight_read m c k ⟨n.val, by omega⟩ n.isLt)

/-- The result's element at an index. -/
def resultAt (c : Dev nD) (i : S8x4352x3600.Idx) : EReal :=
  proj (m ((c : Thread nD τ).loc main_arg0)) (m ((c : Thread nD τ).loc main_arg1)) (m ((c : Thread nD τ).loc main_arg2))
    (m ((c : Thread nD τ).loc main_arg3)) (m ((c : Thread nD τ).loc main_arg4)) 0 1 (m ((c : Thread nD τ).loc main_arg5)) (i 0) (i 1) (i 2)

/-- The result after the operations that follow the region: the array without its padding. -/
theorem result (c : Dev nD) : Pipeline.afterTail₀ cfgs (dats m) 0 (V0 m) [hostOps1] c main_v16 = resultAt m c := by
  unfold Pipeline.afterTail₀
  simp only [hostOps1, List.flatten_cons, List.flatten_nil, List.append_nil]
  after_results
  rw [show Pipeline.withArrays (cfgs 0).spec c (V0 m c) (fun w => (dats m 0 c).arrAt w (cfgs 0).N) (Proc.devRef .tc main_v15) = _ from
    Pipeline.withArrays_arr (cfgs 0).spec (by decide) c (V0 m c) (fun w => (dats m 0 c).arrAt w (cfgs 0).N) 4, final m c]
  funext i
  refine Eq.trans ?_ (padded_eq m c (i 0) (i 1) (i 2))
  refine congrArg (paddedAt m c) (funext fun a => match a with | ⟨0, _⟩ => ?_ | ⟨1, _⟩ => ?_ | ⟨2, _⟩ => ?_)
  · exact Fin.ext (Nat.zero_add _)
  · exact Fin.ext (Nat.zero_add _)
  · exact Fin.ext (Nat.zero_add _)

end Cert.InProjIdeal.Calls

namespace Cert.InProjRefIdeal.Calls

open Cert.InProjRefIdeal Cert.InProjRefIdeal.Gen Cert.InProjRefIdeal.Read Cert.InProjRefIdeal.Hidden Cert.Rows

/-- The reference's result at an element. -/
theorem v50_at (X : FVec Ideal S8x4096x1024 .f32) (C : FVec Ideal S8x256x1024 .f32) (G : FVec Ideal S1024 .f32) (ML : FVec Ideal S8x6x1x1024 .f32)
    (MC : FVec Ideal S6x1024 .f32) (W : FVec Ideal S1024x3600 .f32) (b : Fin 8) (s : Fin 4352) (n : Fin 3600) :
    val_main_v50 (F := Ideal) X C G ML MC W (ix3 b s n) = proj X C G ML MC 0 1 W b s n := by
  pointwise [val_main_v50]
  by_cases h : s.val < 256
  · rw [dif_pos h, val_main_v48_apply]
    refine Finset.sum_congr rfl fun k _ => ?_
    rw [show lidx_main_v48 (ix3 b ⟨s.val, h⟩ n) k = ix3 b ⟨s.val, h⟩ k from funext fun a => match a with | ⟨0, _⟩ => rfl | ⟨1, _⟩ => rfl | ⟨2, _⟩ => rfl,
      show ridx_main_v48 (ix3 b ⟨s.val, h⟩ n) k = ix2 k n from funext fun a => match a with | ⟨0, _⟩ => rfl | ⟨1, _⟩ => rfl,
      ctx_row X C G ML MC b s h]
  · rw [dif_neg h, val_main_v49_apply]
    refine Finset.sum_congr rfl fun k _ => ?_
    rw [show lidx_main_v49 (ix3 b ⟨s.val - 256, by omega⟩ n) k = ix3 b ⟨s.val - 256, by omega⟩ k from funext fun a => match a with | ⟨0, _⟩ => rfl | ⟨1, _⟩ => rfl | ⟨2, _⟩ => rfl,
      show ridx_main_v49 (ix3 b ⟨s.val - 256, by omega⟩ n) k = ix2 k n from funext fun a => match a with | ⟨0, _⟩ => rfl | ⟨1, _⟩ => rfl,
      seq_row X C G ML MC b s h]

end Cert.InProjRefIdeal.Calls

end
-- ==== Proof.OutOdd.lean ====
/- The output projection of the odd layers: every grid point writes 256 rows, each the stream's row plus its gate times
   the projected row; and the reference's result, which is the same element by element. -/
module

public import proofs.«01_k».proof.Proof.Rows
public import proofs.«01_k».proof.Proof.Gen.OutOddIdeal.Value
public import proofs.«01_k».proof.Proof.Gen.OutOddRefIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutOddIdeal.Out

open Cert.OutOddIdeal Cert.OutOddIdeal.Gen Cert.Rows

variable (m : (ℓ : Loc nD τ sig) → Buf (Elt Ideal) ℓ)

theorem idx : ∀ t : Fin cfg0.N, win0_0.index t = ![t.val / 17, t.val % 17, 0] ∧ win0_1.index t = ![0, 0]
    ∧ win0_2.index t = ![t.val / 17, t.val % 17, 0] ∧ win0_3.index t = ![t.val / 17, min (t.val % 17) 1, 0, 0]
    ∧ win0_4.index t = ![t.val / 17, t.val % 17, 0] :=
  (by decide +kernel : ∀ t : Fin grid0.N, _)

theorem N_lt (t : Fin cfg0.N) : t.val < 136 := lt_of_lt_of_eq t.isLt (by decide +kernel : cfg0.N = 136)

theorem pay (x0 : FVec Ideal S1x256x1024 .bf16) (x1 : FVec Ideal S1024x1024 .bf16) (x2 : FVec Ideal S1x256x1024 .f32)
    (x3 : FVec Ideal S1x1x1x1024 .f32) (r : Fin 256) (n : Fin 1024) :
    k0_pay1 (F := Ideal) x0 x1 x2 x3 (ix3 0 r n) = x2 (ix3 0 r n) + x3 (ix4 0 0 0 n) * ∑ k : Fin 1024, x0 (ix3 0 r k) * x1 (ix2 k n) := by
  pointwise [k0_pay1]

theorem stream_read (c : Dev nD) (b : Fin 8) (s : Fin 4352) (k : Fin 1024) :
    (show FVec Ideal S8x4352x1024 .f32 from V m c main_v0) (ix3 b s k)
      = row (m ((c : Thread nD τ).loc main_arg1)) (m ((c : Thread nD τ).loc main_arg2)) b s k := by
  entry_read
  pointwise [row]

theorem gate_ctx (c : Dev nD) (b : Fin 8) (k : Fin 1024) :
    (show FVec Ideal S8x2x1x1024 .f32 from V m c main_v12) (ix4 b 0 0 k)
      = (show FVec Ideal S6x1024 .f32 from m ((c : Thread nD τ).loc main_arg4)) (ix2 2 k) := by
  entry_read
  pointwise

theorem gate_seq (c : Dev nD) (b : Fin 8) (k : Fin 1024) :
    (show FVec Ideal S8x2x1x1024 .f32 from V m c main_v12) (ix4 b 1 0 k)
      = (show FVec Ideal S8x6x1x1024 .f32 from m ((c : Thread nD τ).loc main_arg3)) (ix4 b 2 0 k) := by
  entry_read
  pointwise

theorem weight_read (c : Dev nD) (k n : Fin 1024) :
    (show FVec Ideal S1024x1024 .bf16 from V m c main_v11) (ix2 k n)
      = (show FVec Ideal S1024x1024 .f32 from m ((c : Thread nD τ).loc main_arg5)) (ix2 k n) := by
  entry_read
  pointwise

/-- The result array's element at an index. -/
def outAt (c : Dev nD) (i : S8x4352x1024.Idx) : EReal :=
  outProj (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2)

theorem gate_read (c : Dev nD) (t : Fin cfg0.N) (r : Fin 256) (n : Fin 1024) :
    (show FVec Ideal S1x1x1x1024 .f32 from iblk m c 3 t) (ix4 0 0 0 n)
      = modOf (m ((c : Thread nD τ).loc main_arg3)) (m ((c : Thread nD τ).loc main_arg4))
          ⟨t.val / 17, by have := N_lt t; omega⟩ ⟨t.val % 17 * 256 + r.val, by omega⟩ 2 n := by
  have ht := N_lt t
  by_cases h : t.val % 17 = 0
  · rw [modOf, if_pos (by dsimp only; omega)]
    refine Eq.trans ?_ (gate_ctx m c ⟨t.val / 17, by omega⟩ n)
    blk_ext [iblk, idx t]
  · rw [modOf, if_neg (by dsimp only; omega)]
    refine Eq.trans ?_ (gate_seq m c ⟨t.val / 17, by omega⟩ n)
    blk_ext [iblk, idx t]

theorem point (c : Dev nD) (t : Fin cfg0.N) (r : Fin 256) (n : Fin 1024) :
    k0_pay1 (F := Ideal) (iblk m c 0 t) (iblk m c 1 t) (iblk m c 2 t) (iblk m c 3 t) (ix3 0 r n)
      = outAt m c (ix3 ⟨t.val / 17, by have := N_lt t; omega⟩ ⟨t.val % 17 * 256 + r.val, by omega⟩ n) := by
  have ht := N_lt t
  refine (pay _ _ _ _ r n).trans ?_
  unfold outAt outProj
  refine congrArg₂ (· + ·) ?_ (congrArg₂ (· * ·) (gate_read m c t r n) (Finset.sum_congr rfl fun k _ => congrArg₂ (· * ·) ?_ ?_))
  · refine Eq.trans ?_ (stream_read m c _ _ _)
    blk_ext [iblk, idx t]
  · blk_ext [iblk, V, idx t]
  · refine Eq.trans ?_ (weight_read m c _ _)
    blk_ext [iblk, idx t]

/-- The result array after the run. -/
theorem final (c : Dev nD) : (dats m 0 c).arrAt 4 (cfgs 0).N = outAt m c := by
  refine (dats m 0 c).arrAt_eq_of_covers 4 _ (by decide +kernel) fun t hf y => ?_
  blk_simp
  rw [after0_4]
  have ht := N_lt t
  have hy : (y : S1x256x1024.Idx) = ix3 0 (y 1) (y 2) := by
    refine (eq_ix3 (y : S1x256x1024.Idx)).trans ?_
    rw [show y 0 = (0 : Fin 1) from Subsingleton.elim (α := Fin 1) _ _]
    rfl
  frame_out
  refine (congrArg _ hy).trans ((point m c t (y 1) (y 2)).trans (congrArg _ ?_))
  blk_ext [idx t]

end Cert.OutOddIdeal.Out

namespace Cert.OutOddRefIdeal.Out

open Cert.OutOddRefIdeal Cert.OutOddRefIdeal.Gen Cert.OutOddRefIdeal.Read Cert.Rows

/-- The reference's result at an element. -/
theorem v16_at (A : FVec Ideal S8x4352x1024 .bf16) (X : FVec Ideal S8x4096x1024 .f32) (C : FVec Ideal S8x256x1024 .f32)
    (ML : FVec Ideal S8x6x1x1024 .f32) (MC : FVec Ideal S6x1024 .f32) (W : FVec Ideal S1024x1024 .f32)
    (b : Fin 8) (s : Fin 4352) (n : Fin 1024) :
    val_main_v16 (F := Ideal) A X C ML MC W (ix3 b s n) = outProj A X C ML MC W b s n := by
  pointwise [val_main_v16]
  unfold outProj row modOf
  by_cases h : s.val < 256
  · simp only [dif_pos h, if_pos h]
    rw [val_main_v15_apply, val_main_v14_apply]
    refine congrArg₂ (· + ·) rfl (congrArg₂ (· * ·) ?_ ?_)
    · pointwise [val_main_v13, val_main_v12, val_main_v11, val_main_v10]
    · pointwise [val_main_v2, val_main_v1, val_main_v0]
  · simp only [dif_neg h, if_neg h]
    rw [val_main_v9_apply, val_main_v8_apply]
    refine congrArg₂ (· + ·) rfl (congrArg₂ (· * ·) ?_ ?_)
    · pointwise [val_main_v7, val_main_v6, val_main_v5]
    · have hs : (⟨256 + (s.val - 256), by omega⟩ : Fin 4352) = s := Fin.ext (by dsimp only; omega)
      pointwise [val_main_v4, val_main_v3, val_main_v0]
      simp only [hs]

end Cert.OutOddRefIdeal.Out

end
-- ==== Proof.OutEven.lean ====
/- The output projection of the even layers: every grid point writes 256 rows, each the stream's row plus its gate times
   the projected row; and the reference's result, which is the same element by element. -/
module

public import proofs.«01_k».proof.Proof.Rows
public import proofs.«01_k».proof.Proof.Gen.OutEvenIdeal.Value
public import proofs.«01_k».proof.Proof.Gen.OutEvenRefIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutEvenIdeal.Out

open Cert.OutEvenIdeal Cert.OutEvenIdeal.Gen Cert.Rows

variable (m : (ℓ : Loc nD τ sig) → Buf (Elt Ideal) ℓ)

theorem idx : ∀ t : Fin cfg0.N, win0_0.index t = ![t.val / 17, t.val % 17, 0] ∧ win0_1.index t = ![0, 0]
    ∧ win0_2.index t = ![t.val / 17, t.val % 17, 0] ∧ win0_3.index t = ![t.val / 17, min (t.val % 17) 1, 0, 0]
    ∧ win0_4.index t = ![t.val / 17, t.val % 17, 0] :=
  (by decide +kernel : ∀ t : Fin grid0.N, _)

theorem N_lt (t : Fin cfg0.N) : t.val < 136 := lt_of_lt_of_eq t.isLt (by decide +kernel : cfg0.N = 136)

theorem pay (x0 : FVec Ideal S1x256x1024 .f32) (x1 : FVec Ideal S1024x1024 .bf16) (x2 : FVec Ideal S1x256x1024 .f32)
    (x3 : FVec Ideal S1x1x1x1024 .f32) (r : Fin 256) (n : Fin 1024) :
    k0_pay1 (F := Ideal) x0 x1 x2 x3 (ix3 0 r n) = x2 (ix3 0 r n) + x3 (ix4 0 0 0 n) * ∑ k : Fin 1024, x0 (ix3 0 r k) * x1 (ix2 k n) := by
  pointwise [k0_pay1]

theorem stream_read (c : Dev nD) (b : Fin 8) (s : Fin 4352) (k : Fin 1024) :
    (show FVec Ideal S8x4352x1024 .f32 from V m c main_v0) (ix3 b s k)
      = row (m ((c : Thread nD τ).loc main_arg1)) (m ((c : Thread nD τ).loc main_arg2)) b s k := by
  entry_read
  pointwise [row]

theorem gate_ctx (c : Dev nD) (b : Fin 8) (k : Fin 1024) :
    (show FVec Ideal S8x2x1x1024 .f32 from V m c main_v12) (ix4 b 0 0 k)
      = (show FVec Ideal S6x1024 .f32 from m ((c : Thread nD τ).loc main_arg4)) (ix2 2 k) := by
  entry_read
  pointwise

theorem gate_seq (c : Dev nD) (b : Fin 8) (k : Fin 1024) :
    (show FVec Ideal S8x2x1x1024 .f32 from V m c main_v12) (ix4 b 1 0 k)
      = (show FVec Ideal S8x6x1x1024 .f32 from m ((c : Thread nD τ).loc main_arg3)) (ix4 b 2 0 k) := by
  entry_read
  pointwise

theorem weight_read (c : Dev nD) (k n : Fin 1024) :
    (show FVec Ideal S1024x1024 .bf16 from V m c main_v11) (ix2 k n)
      = (show FVec Ideal S1024x1024 .f32 from m ((c : Thread nD τ).loc main_arg5)) (ix2 k n) := by
  entry_read
  pointwise

/-- The result array's element at an index. -/
def outAt (c : Dev nD) (i : S8x4352x1024.Idx) : EReal :=
  outProj (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2)

theorem gate_read (c : Dev nD) (t : Fin cfg0.N) (r : Fin 256) (n : Fin 1024) :
    (show FVec Ideal S1x1x1x1024 .f32 from iblk m c 3 t) (ix4 0 0 0 n)
      = modOf (m ((c : Thread nD τ).loc main_arg3)) (m ((c : Thread nD τ).loc main_arg4))
          ⟨t.val / 17, by have := N_lt t; omega⟩ ⟨t.val % 17 * 256 + r.val, by omega⟩ 2 n := by
  have ht := N_lt t
  by_cases h : t.val % 17 = 0
  · rw [modOf, if_pos (by dsimp only; omega)]
    refine Eq.trans ?_ (gate_ctx m c ⟨t.val / 17, by omega⟩ n)
    blk_ext [iblk, idx t]
  · rw [modOf, if_neg (by dsimp only; omega)]
    refine Eq.trans ?_ (gate_seq m c ⟨t.val / 17, by omega⟩ n)
    blk_ext [iblk, idx t]

theorem point (c : Dev nD) (t : Fin cfg0.N) (r : Fin 256) (n : Fin 1024) :
    k0_pay1 (F := Ideal) (iblk m c 0 t) (iblk m c 1 t) (iblk m c 2 t) (iblk m c 3 t) (ix3 0 r n)
      = outAt m c (ix3 ⟨t.val / 17, by have := N_lt t; omega⟩ ⟨t.val % 17 * 256 + r.val, by omega⟩ n) := by
  have ht := N_lt t
  refine (pay _ _ _ _ r n).trans ?_
  unfold outAt outProj
  refine congrArg₂ (· + ·) ?_ (congrArg₂ (· * ·) (gate_read m c t r n) (Finset.sum_congr rfl fun k _ => congrArg₂ (· * ·) ?_ ?_))
  · refine Eq.trans ?_ (stream_read m c _ _ _)
    blk_ext [iblk, idx t]
  · blk_ext [iblk, V, idx t]
  · refine Eq.trans ?_ (weight_read m c _ _)
    blk_ext [iblk, idx t]

/-- The result array after the run. -/
theorem final (c : Dev nD) : (dats m 0 c).arrAt 4 (cfgs 0).N = outAt m c := by
  refine (dats m 0 c).arrAt_eq_of_covers 4 _ (by decide +kernel) fun t hf y => ?_
  blk_simp
  rw [after0_4]
  have ht := N_lt t
  have hy : (y : S1x256x1024.Idx) = ix3 0 (y 1) (y 2) := by
    refine (eq_ix3 (y : S1x256x1024.Idx)).trans ?_
    rw [show y 0 = (0 : Fin 1) from Subsingleton.elim (α := Fin 1) _ _]
    rfl
  frame_out
  refine (congrArg _ hy).trans ((point m c t (y 1) (y 2)).trans (congrArg _ ?_))
  blk_ext [idx t]

end Cert.OutEvenIdeal.Out

namespace Cert.OutEvenRefIdeal.Out

open Cert.OutEvenRefIdeal Cert.OutEvenRefIdeal.Gen Cert.OutEvenRefIdeal.Read Cert.Rows

/-- The reference's result at an element. -/
theorem v15_at (A : FVec Ideal S8x4352x1024 .f32) (X : FVec Ideal S8x4096x1024 .f32) (C : FVec Ideal S8x256x1024 .f32)
    (ML : FVec Ideal S8x6x1x1024 .f32) (MC : FVec Ideal S6x1024 .f32) (W : FVec Ideal S1024x1024 .f32)
    (b : Fin 8) (s : Fin 4352) (n : Fin 1024) :
    val_main_v15 (F := Ideal) A X C ML MC W (ix3 b s n) = outProj A X C ML MC W b s n := by
  pointwise [val_main_v15]
  unfold outProj row modOf
  by_cases h : s.val < 256
  · simp only [dif_pos h, if_pos h]
    rw [val_main_v14_apply, val_main_v13_apply]
    refine congrArg₂ (· + ·) rfl (congrArg₂ (· * ·) ?_ ?_)
    · pointwise [val_main_v12, val_main_v11, val_main_v10, val_main_v9]
    · pointwise [val_main_v1, val_main_v0]
  · simp only [dif_neg h, if_neg h]
    rw [val_main_v8_apply, val_main_v7_apply]
    refine congrArg₂ (· + ·) rfl (congrArg₂ (· * ·) ?_ ?_)
    · pointwise [val_main_v6, val_main_v5, val_main_v4]
    · have hs : (⟨256 + (s.val - 256), by omega⟩ : Fin 4352) = s := Fin.ext (by dsimp only; omega)
      pointwise [val_main_v3, val_main_v2]
      simp only [hs]

end Cert.OutEvenRefIdeal.Out

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.PeerQ
public import proofs.«01_k».proof.Proof.Gen.PeerQ.Skeleton
public import proofs.«01_k».proof.Proof.Gen.PeerQ.Launch
public import proofs.«01_k».proof.Proof.Gen.PeerQ.Points
public import proofs.«01_k».proof.Proof.Gen.PeerQ.Frame
public import proofs.«01_k».proof.Proof.Gen.PeerQIdeal
public import proofs.«01_k».proof.Proof.Gen.PeerQIdeal.Skeleton
public import proofs.«01_k».proof.Proof.Gen.PeerQIdeal.Launch
public import proofs.«01_k».proof.Proof.Gen.PeerQIdeal.Points
public import proofs.«01_k».proof.Proof.Gen.PeerQIdeal.Frame
public import proofs.«01_k».proof.Proof.Gen.PeerQRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutOdd
public import proofs.«01_k».proof.Proof.Gen.OutOdd.Skeleton
public import proofs.«01_k».proof.Proof.Gen.OutOdd.Launch
public import proofs.«01_k».proof.Proof.Gen.OutOdd.Points
public import proofs.«01_k».proof.Proof.Gen.OutOdd.Frame
public import proofs.«01_k».proof.Proof.Gen.OutOddIdeal
public import proofs.«01_k».proof.Proof.Gen.OutOddIdeal.Skeleton
public import proofs.«01_k».proof.Proof.Gen.OutOddIdeal.Launch
public import proofs.«01_k».proof.Proof.Gen.OutOddIdeal.Points
public import proofs.«01_k».proof.Proof.Gen.OutOddIdeal.Frame
public import proofs.«01_k».proof.Proof.Gen.OutOddRefIdeal
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.OutEvenRefIdeal
public import proofs.«01_k».proof.Proof.Gen.Pre_finite_qk
public import proofs.«01_k».proof.Proof.Gen.KernelIdeal.Value
public import proofs.«01_k».proof.Proof.Gen.QkvIdeal.Value
public import proofs.«01_k».proof.Proof.Gen.PeerQIdeal.Value
public import proofs.«01_k».proof.Proof.Gen.OutOddIdeal.Value
public import proofs.«01_k».proof.Proof.Gen.OutEvenIdeal.Value
public import proofs.«01_k».proof.Proof.Gen.ReferenceIdeal.Run
public import proofs.«01_k».proof.Proof.Gen.ReferenceIdeal.Read
public import proofs.«01_k».proof.Proof.Gen.QkvRefIdeal.Run
public import proofs.«01_k».proof.Proof.Gen.QkvRefIdeal.Read
public import proofs.«01_k».proof.Proof.Gen.PeerQRefIdeal.Run
public import proofs.«01_k».proof.Proof.Gen.PeerQRefIdeal.Read
public import proofs.«01_k».proof.Proof.Gen.InProjRefIdeal.Run
public import proofs.«01_k».proof.Proof.Gen.InProjRefIdeal.Read
public import proofs.«01_k».proof.Proof.Gen.OutOddRefIdeal.Run
public import proofs.«01_k».proof.Proof.Gen.OutOddRefIdeal.Read
public import proofs.«01_k».proof.Proof.Gen.OutEvenRefIdeal.Run
public import proofs.«01_k».proof.Proof.Gen.OutEvenRefIdeal.Read
public import proofs.«01_k».proof.Proof.Blocks
public import proofs.«01_k».proof.Proof.Reference
public import proofs.«01_k».proof.Proof.Finite
public import proofs.«01_k».proof.Proof.QkvBlocks
public import proofs.«01_k».proof.Proof.QkvRope
public import proofs.«01_k».proof.Proof.PeerQ
public import proofs.«01_k».proof.Proof.InProj
public import proofs.«01_k».proof.Proof.OutOdd
public import proofs.«01_k».proof.Proof.OutEven
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's result and the reference's, element by element. -/
theorem attention (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v97 m' c = Cert.KernelIdeal.Point.resultAt m c := by
  rw [Cert.ReferenceIdeal.Read.val_main_v97_eq, a0, a1, a2, a3, a4, a5]
  funext i
  obtain ⟨b, s, l, rfl⟩ : ∃ b s l, i = ix3 b s l := ⟨i 0, i 1, i 2, funext fun a => match a with
    | ⟨0, _⟩ => rfl | ⟨1, _⟩ => rfl | ⟨2, _⟩ => rfl⟩
  exact Cert.ReferenceIdeal.Read.v97_at _ _ _ _ _ _ b s l

theorem algebraic : Cert.algebraic_KernelIdeal_ReferenceIdeal_pre_finite_qk := by
  pair_intro
  · run_from Cert.KernelIdeal.Value.run_blocks m g
  · run_from Cert.ReferenceIdeal.Value.run m' g'
    obtain ⟨a0, a1, a2, a3, a4, a5⟩ := hagree c
    rw [Cert.KernelIdeal.Point.final m (fun c i hi => Cert.Attn.real_of_pre _ _ _ _ _ _ (hpre c) i hi) c]
    exact attention m m' c a0 a1 a2 a3 a4 a5

/-- The reference has no semaphores and writes none of its arguments. -/
theorem reference_frame : Cert.quiescent_ReferenceIdeal := fun m g _ =>
  (θ_run _ _ _).mono (fun r h => ⟨fun c => (h c).2, sem_eq_zero_of_no_sems rfl r.2⟩) (Cert.ReferenceIdeal.Value.run m g)

/-! ## The query, key and value projection -/

theorem qkv (m : (ℓ : Loc Cert.QkvIdeal.nD Cert.QkvIdeal.τ Cert.QkvIdeal.sig) → Buf (Elt Ideal) ℓ)
    (m' : (ℓ : Loc Cert.QkvRefIdeal.nD Cert.QkvRefIdeal.τ Cert.QkvRefIdeal.sig) → Buf (Elt Ideal) ℓ) (c : Dev Cert.QkvIdeal.nD)
    (a0 : m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0))
    (a1 : m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1))
    (a2 : m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2))
    (a3 : m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3))
    (a4 : m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4))
    (a5 : m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) :
    Cert.QkvRefIdeal.Value.res_main_v136 m' c = Cert.QkvIdeal.Calls.outAt m c := by
  rw [Cert.QkvRefIdeal.Read.val_main_v136_eq, a0, a1, a2, a3, a4, a5]
  funext i
  obtain ⟨b, s, n, rfl⟩ : ∃ b s n, i = ix3 b s n := ⟨i 0, i 1, i 2, funext fun a => match a with
    | ⟨0, _⟩ => rfl | ⟨1, _⟩ => rfl | ⟨2, _⟩ => rfl⟩
  exact Cert.QkvRefIdeal.Calls.v136_at _ _ _ _ _ _ b s n

theorem qkv_algebraic : Cert.algebraic_QkvIdeal_QkvRefIdeal := by
  pair_intro
  · run_from Cert.QkvIdeal.Value.run_blocks m g
  · run_from Cert.QkvRefIdeal.Value.run m' g'
    obtain ⟨a0, a1, a2, a3, a4, a5⟩ := hagree c
    rw [Cert.QkvIdeal.Calls.final m c]
    exact qkv m m' c a0 a1 a2 a3 a4 a5

/-- The reference has no semaphores and writes none of its arguments. -/
theorem qkv_reference_frame : Cert.quiescent_QkvRefIdeal := fun m g _ =>
  (θ_run _ _ _).mono (fun r h => ⟨fun c => (h c).2, sem_eq_zero_of_no_sems rfl r.2⟩) (Cert.QkvRefIdeal.Value.run m g)

/-! ## The product-key query projection -/

theorem peer_query_hidden (m : (ℓ : Loc Cert.PeerQIdeal.nD Cert.PeerQIdeal.τ Cert.PeerQIdeal.sig) → Buf (Elt Ideal) ℓ) (c : Dev Cert.PeerQIdeal.nD) :
    Cert.PeerQRefIdeal.Read.val_main_v48 (F := Ideal) (m ((c.tc : Thread Cert.PeerQIdeal.nD Cert.PeerQIdeal.τ).loc Cert.PeerQIdeal.main_arg0)) (m ((c.tc : Thread Cert.PeerQIdeal.nD Cert.PeerQIdeal.τ).loc Cert.PeerQIdeal.main_arg1)) (m ((c.tc : Thread Cert.PeerQIdeal.nD Cert.PeerQIdeal.τ).loc Cert.PeerQIdeal.main_arg2)) (m ((c.tc : Thread Cert.PeerQIdeal.nD Cert.PeerQIdeal.τ).loc Cert.PeerQIdeal.main_arg3)) (m ((c.tc : Thread Cert.PeerQIdeal.nD Cert.PeerQIdeal.τ).loc Cert.PeerQIdeal.main_arg4))
      = Cert.PeerQIdeal.Calls.hiddenAt m c := by
  funext i
  obtain ⟨b, s, n, rfl⟩ : ∃ b s n, i = ix3 b s n := ⟨i 0, i 1, i 2, funext fun a => match a with
    | ⟨0, _⟩ => rfl | ⟨1, _⟩ => rfl | ⟨2, _⟩ => rfl⟩
  exact Cert.PeerQRefIdeal.Calls.v48_at _ _ _ _ _ b s n

theorem peer_query (m : (ℓ : Loc Cert.PeerQIdeal.nD Cert.PeerQIdeal.τ Cert.PeerQIdeal.sig) → Buf (Elt Ideal) ℓ) (c : Dev Cert.PeerQIdeal.nD) :
    Cert.PeerQRefIdeal.Read.val_main_v49 (F := Ideal) (m ((c.tc : Thread Cert.PeerQIdeal.nD Cert.PeerQIdeal.τ).loc Cert.PeerQIdeal.main_arg0)) (m ((c.tc : Thread Cert.PeerQIdeal.nD Cert.PeerQIdeal.τ).loc Cert.PeerQIdeal.main_arg1)) (m ((c.tc : Thread Cert.PeerQIdeal.nD Cert.PeerQIdeal.τ).loc Cert.PeerQIdeal.main_arg2)) (m ((c.tc : Thread Cert.PeerQIdeal.nD Cert.PeerQIdeal.τ).loc Cert.PeerQIdeal.main_arg3)) (m ((c.tc : Thread Cert.PeerQIdeal.nD Cert.PeerQIdeal.τ).loc Cert.PeerQIdeal.main_arg4)) (m ((c.tc : Thread Cert.PeerQIdeal.nD Cert.PeerQIdeal.τ).loc Cert.PeerQIdeal.main_arg5))
      = Cert.PeerQIdeal.Calls.queryAt m c := by
  funext i
  obtain ⟨b, s, n, rfl⟩ : ∃ b s n, i = ix3 b s n := ⟨i 0, i 1, i 2, funext fun a => match a with
    | ⟨0, _⟩ => rfl | ⟨1, _⟩ => rfl | ⟨2, _⟩ => rfl⟩
  exact Cert.PeerQRefIdeal.Calls.v49_at _ _ _ _ _ _ b s n

theorem peer_query_algebraic : Cert.algebraic_PeerQIdeal_PeerQRefIdeal := by
  pair_intro
  · run_from Cert.PeerQIdeal.Value.run_blocks m g
  · run_from Cert.PeerQRefIdeal.Value.run m' g'
    · obtain ⟨a0, a1, a2, a3, a4, a5⟩ := hagree c
      rw [Cert.PeerQIdeal.Calls.final_hidden m c]
      refine (Cert.PeerQRefIdeal.Read.val_main_v48_eq _ _ _ _ _).trans ?_
      try rw [a0]
      try rw [a1]
      try rw [a2]
      try rw [a3]
      try rw [a4]
      try rw [a5]
      exact peer_query_hidden m c
    · obtain ⟨a0, a1, a2, a3, a4, a5⟩ := hagree c
      rw [Cert.PeerQIdeal.Calls.final_query m c]
      refine (Cert.PeerQRefIdeal.Read.val_main_v49_eq (F := Ideal) _ _ _ _ _ _).trans ?_
      try rw [a0]
      try rw [a1]
      try rw [a2]
      try rw [a3]
      try rw [a4]
      try rw [a5]
      exact peer_query m c

/-- The reference has no semaphores and writes none of its arguments. -/
theorem peer_query_reference_frame : Cert.quiescent_PeerQRefIdeal := fun m g _ =>
  (θ_run _ _ _).mono (fun r h => ⟨fun c => (h c).2.2, sem_eq_zero_of_no_sems rfl r.2⟩) (Cert.PeerQRefIdeal.Value.run m g)

/-! ## The input projection -/

theorem in_proj (m : (ℓ : Loc Cert.InProjIdeal.nD Cert.InProjIdeal.τ Cert.InProjIdeal.sig) → Buf (Elt Ideal) ℓ) (c : Dev Cert.InProjIdeal.nD) :
    Cert.InProjRefIdeal.Read.val_main_v50 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))
      = Cert.InProjIdeal.Calls.resultAt m c := by
  funext i
  obtain ⟨b, s, n, rfl⟩ : ∃ b s n, i = ix3 b s n := ⟨i 0, i 1, i 2, funext fun a => match a with
    | ⟨0, _⟩ => rfl | ⟨1, _⟩ => rfl | ⟨2, _⟩ => rfl⟩
  exact Cert.InProjRefIdeal.Calls.v50_at _ _ _ _ _ _ b s n

theorem in_proj_algebraic : Cert.algebraic_InProjIdeal_InProjRefIdeal := by
  intro m g m' g' hpre hagree
  refine ⟨fun c => Cert.InProjIdeal.Calls.resultAt m c, ?_, ?_⟩
  · exact θ_run_mono (θ_run_and (Cert.InProjIdeal.Gen.run_main m g) (Cert.InProjIdeal.Gen.unchanged m g)) fun r h c =>
      ⟨((h.1 c).2 Cert.InProjIdeal.main_v16 (Pipeline.mem_restRefs_of Cert.InProjIdeal.main_v16 (by decide) (by decide))).trans
        (Cert.InProjIdeal.Calls.result m c), h.2 c⟩
  · run_from Cert.InProjRefIdeal.Value.run m' g'
    obtain ⟨a0, a1, a2, a3, a4, a5⟩ := hagree c
    refine (Cert.InProjRefIdeal.Read.val_main_v50_eq _ _ _ _ _ _).trans ?_
    try rw [a0]
    try rw [a1]
    try rw [a2]
    try rw [a3]
    try rw [a4]
    try rw [a5]
    exact in_proj m c

/-- The reference has no semaphores and writes none of its arguments. -/
theorem in_proj_reference_frame : Cert.quiescent_InProjRefIdeal := fun m g _ =>
  (θ_run _ _ _).mono (fun r h => ⟨fun c => (h c).2, sem_eq_zero_of_no_sems rfl r.2⟩) (Cert.InProjRefIdeal.Value.run m g)

/-! ## The output projection of the odd layers -/

theorem out_odd (m : (ℓ : Loc Cert.OutOddIdeal.nD Cert.OutOddIdeal.τ Cert.OutOddIdeal.sig) → Buf (Elt Ideal) ℓ) (c : Dev Cert.OutOddIdeal.nD) :
    Cert.OutOddRefIdeal.Read.val_main_v16 (F := Ideal) (m ((c.tc : Thread Cert.OutOddIdeal.nD Cert.OutOddIdeal.τ).loc Cert.OutOddIdeal.main_arg0)) (m ((c.tc : Thread Cert.OutOddIdeal.nD Cert.OutOddIdeal.τ).loc Cert.OutOddIdeal.main_arg1)) (m ((c.tc : Thread Cert.OutOddIdeal.nD Cert.OutOddIdeal.τ).loc Cert.OutOddIdeal.main_arg2)) (m ((c.tc : Thread Cert.OutOddIdeal.nD Cert.OutOddIdeal.τ).loc Cert.OutOddIdeal.main_arg3)) (m ((c.tc : Thread Cert.OutOddIdeal.nD Cert.OutOddIdeal.τ).loc Cert.OutOddIdeal.main_arg4)) (m ((c.tc : Thread Cert.OutOddIdeal.nD Cert.OutOddIdeal.τ).loc Cert.OutOddIdeal.main_arg5))
      = Cert.OutOddIdeal.Out.outAt m c := by
  funext i
  obtain ⟨b, s, n, rfl⟩ : ∃ b s n, i = ix3 b s n := ⟨i 0, i 1, i 2, funext fun a => match a with
    | ⟨0, _⟩ => rfl | ⟨1, _⟩ => rfl | ⟨2, _⟩ => rfl⟩
  exact Cert.OutOddRefIdeal.Out.v16_at _ _ _ _ _ _ b s n

theorem out_odd_algebraic : Cert.algebraic_OutOddIdeal_OutOddRefIdeal := by
  pair_intro
  · run_from Cert.OutOddIdeal.Value.run_blocks m g
  · run_from Cert.OutOddRefIdeal.Value.run m' g'
    obtain ⟨a0, a1, a2, a3, a4, a5⟩ := hagree c
    rw [Cert.OutOddIdeal.Out.final m c]
    refine (Cert.OutOddRefIdeal.Read.val_main_v16_eq _ _ _ _ _ _).trans ?_
    rw [a4, a5]
    exact out_odd m c

/-- The reference has no semaphores and writes none of its arguments. -/
theorem out_odd_reference_frame : Cert.quiescent_OutOddRefIdeal := fun m g _ =>
  (θ_run _ _ _).mono (fun r h => ⟨fun c => (h c).2, sem_eq_zero_of_no_sems rfl r.2⟩) (Cert.OutOddRefIdeal.Value.run m g)

/-! ## The output projection of the even layers -/

theorem out_even (m : (ℓ : Loc Cert.OutEvenIdeal.nD Cert.OutEvenIdeal.τ Cert.OutEvenIdeal.sig) → Buf (Elt Ideal) ℓ) (c : Dev Cert.OutEvenIdeal.nD) :
    Cert.OutEvenRefIdeal.Read.val_main_v15 (F := Ideal) (m ((c.tc : Thread Cert.OutEvenIdeal.nD Cert.OutEvenIdeal.τ).loc Cert.OutEvenIdeal.main_arg0)) (m ((c.tc : Thread Cert.OutEvenIdeal.nD Cert.OutEvenIdeal.τ).loc Cert.OutEvenIdeal.main_arg1)) (m ((c.tc : Thread Cert.OutEvenIdeal.nD Cert.OutEvenIdeal.τ).loc Cert.OutEvenIdeal.main_arg2)) (m ((c.tc : Thread Cert.OutEvenIdeal.nD Cert.OutEvenIdeal.τ).loc Cert.OutEvenIdeal.main_arg3)) (m ((c.tc : Thread Cert.OutEvenIdeal.nD Cert.OutEvenIdeal.τ).loc Cert.OutEvenIdeal.main_arg4)) (m ((c.tc : Thread Cert.OutEvenIdeal.nD Cert.OutEvenIdeal.τ).loc Cert.OutEvenIdeal.main_arg5))
      = Cert.OutEvenIdeal.Out.outAt m c := by
  funext i
  obtain ⟨b, s, n, rfl⟩ : ∃ b s n, i = ix3 b s n := ⟨i 0, i 1, i 2, funext fun a => match a with
    | ⟨0, _⟩ => rfl | ⟨1, _⟩ => rfl | ⟨2, _⟩ => rfl⟩
  exact Cert.OutEvenRefIdeal.Out.v15_at _ _ _ _ _ _ b s n

theorem out_even_algebraic : Cert.algebraic_OutEvenIdeal_OutEvenRefIdeal := by
  pair_intro
  · run_from Cert.OutEvenIdeal.Value.run_blocks m g
  · run_from Cert.OutEvenRefIdeal.Value.run m' g'
    obtain ⟨a0, a1, a2, a3, a4, a5⟩ := hagree c
    rw [Cert.OutEvenIdeal.Out.final m c]
    refine (Cert.OutEvenRefIdeal.Read.val_main_v15_eq _ _ _ _ _ _).trans ?_
    rw [a4, a5]
    exact out_even m c

/-- The reference has no semaphores and writes none of its arguments. -/
theorem out_even_reference_frame : Cert.quiescent_OutEvenRefIdeal := fun m g _ =>
  (θ_run _ _ _).mono (fun r h => ⟨fun c => (h c).2, sem_eq_zero_of_no_sems rfl r.2⟩) (Cert.OutEvenRefIdeal.Value.run m g)

theorem claim : Cert.Claim := ⟨Cert.Kernel.Gen.facts, Cert.KernelIdeal.Gen.facts, Cert.ReferenceIdeal.Gen.facts, Cert.Qkv.Gen.facts, Cert.QkvIdeal.Gen.facts, Cert.QkvRefIdeal.Gen.facts, Cert.PeerQ.Gen.facts, Cert.PeerQIdeal.Gen.facts, Cert.PeerQRefIdeal.Gen.facts, Cert.InProj.Gen.facts, Cert.InProjIdeal.Gen.facts, Cert.InProjRefIdeal.Gen.facts, Cert.OutOdd.Gen.facts, Cert.OutOddIdeal.Gen.facts, Cert.OutOddRefIdeal.Gen.facts, Cert.OutEven.Gen.facts, Cert.OutEvenIdeal.Gen.facts, Cert.OutEvenRefIdeal.Gen.facts, Cert.Pre_finite_qk.Gen.facts,
  fun m ρ _ => Cert.Kernel.Gen.frame m ρ,
  fun m ρ _ => Cert.KernelIdeal.Gen.frame m ρ,
  fun m ρ _ => Cert.KernelIdeal.Gen.frame m ρ,
  reference_frame,
  fun m g _ => reference_frame m g trivial,
  fun m ρ _ => Cert.Qkv.Gen.frame m ρ,
  fun m ρ _ => Cert.QkvIdeal.Gen.frame m ρ,
  qkv_reference_frame,
  fun m ρ _ => Cert.PeerQ.Gen.frame m ρ,
  fun m ρ _ => Cert.PeerQIdeal.Gen.frame m ρ,
  peer_query_reference_frame,
  fun m ρ _ => Cert.InProj.Gen.frame m ρ,
  fun m ρ _ => Cert.InProjIdeal.Gen.frame m ρ,
  in_proj_reference_frame,
  fun m ρ _ => Cert.OutOdd.Gen.frame m ρ,
  fun m ρ _ => Cert.OutOddIdeal.Gen.frame m ρ,
  out_odd_reference_frame,
  fun m ρ _ => Cert.OutEven.Gen.frame m ρ,
  fun m ρ _ => Cert.OutEvenIdeal.Gen.frame m ρ,
  out_even_reference_frame,
  trivial,
  algebraic,
  trivial,
  qkv_algebraic,
  trivial,
  peer_query_algebraic,
  trivial,
  in_proj_algebraic,
  trivial,
  out_odd_algebraic,
  trivial,
  out_even_algebraic⟩

end Cert.Proof

end
